-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_k" .f32 0x39AEC33E#32 ((1 / 3000 : ℝ) : EReal)
  ∧ IdealRules.named_const.Statement Cert.KernelIdeal.κ "inv_n" .f32 0x39272F05#32 ((1 / 6272 : ℝ) : EReal)
  ∧ IdealRules.named_const.Statement Cert.KernelIdeal.κ "pad" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x32x196x128 : Shape := ⟨4, ![2, 32, 196, 128]⟩
abbrev S2x32x196x3000 : Shape := ⟨4, ![2, 32, 196, 3000]⟩
abbrev S2x32x196 : Shape := ⟨3, ![2, 32, 196]⟩
abbrev S_ : Shape := ⟨0, ![]⟩

class Facts : Prop where
  bcast_S_S2x32x196x3000 : S_.BroadcastsInDim S2x32x196x3000 (![] : Fin 0 → Fin S2x32x196x3000.rank)

variable [Facts]

def fn {F : FTy → Type} [FloatOps F] (main_arg0 : FVec F S2x32x196x128 .f32) (main_arg1 : FVec F S2x32x196x3000 .f32) (main_arg2 : IVec S2x32x196 32) : IVec S2x32x196x3000 1 :=
  let main_v0 : FVec F S2x32x196x3000 .f32 := Host.absf main_arg1
  let main_cst : FVec F S_ .f32 := constant S_ .f32 0x7F800000#32
  let main_v1 : FVec F S2x32x196x3000 .f32 := broadcastInDim S2x32x196x3000 ![] bcast_S_S2x32x196x3000 main_cst
  let main_v2 : IVec S2x32x196x3000 1 := cmpf .olt main_v0 main_v1
  main_v2
-- ==== Kernel.lean ====
abbrev S2x32x196x128 : Shape := ⟨4, ![2, 32, 196, 128]⟩
abbrev S2x32x196x3000 : Shape := ⟨4, ![2, 32, 196, 3000]⟩
abbrev S2x32x196 : Shape := ⟨3, ![2, 32, 196]⟩
abbrev S_ : Shape := ⟨0, ![]⟩
abbrev S2x32x196x3072 : Shape := ⟨4, ![2, 32, 196, 3072]⟩
abbrev S2x32x196x24x128 : Shape := ⟨5, ![2, 32, 196, 24, 128]⟩
abbrev S12544x24x128 : Shape := ⟨3, ![12544, 24, 128]⟩
abbrev S3136x48x128 : Shape := ⟨3, ![3136, 48, 128]⟩
abbrev S14x24x128 : Shape := ⟨3, ![14, 24, 128]⟩
abbrev S24x128 : Shape := ⟨2, ![24, 128]⟩
abbrev S448x24x128 : Shape := ⟨3, ![448, 24, 128]⟩
abbrev S224x48x128 : Shape := ⟨3, ![224, 48, 128]⟩
abbrev S1x24x128 : Shape := ⟨3, ![1, 24, 128]⟩
abbrev S448 : Shape := ⟨1, ![448]⟩
abbrev S448x1x1 : Shape := ⟨3, ![448, 1, 1]⟩
abbrev S1x1 : Shape := ⟨2, ![1, 1]⟩
abbrev S1x448 : Shape := ⟨2, ![1, 448]⟩
abbrev S1 : Shape := ⟨1, ![1]⟩

abbrev nBuf : Space → Nat
  | .hbm => 23
  | .vmem => 27
  | .smem => 1
  | _ => 0

abbrev bufTy : (tb : Table) → Fin (tcTables nBuf tb) → BufTy
  | .hbm, ⟨0, _⟩ => ⟨S2x32x196x128, .f32⟩
  | .hbm, ⟨1, _⟩ => ⟨S2x32x196x3000, .f32⟩
  | .hbm, ⟨2, _⟩ => ⟨S2x32x196, .i32⟩
  | .hbm, ⟨3, _⟩ => ⟨S_, .f32⟩
  | .hbm, ⟨4, _⟩ => ⟨S2x32x196x3072, .f32⟩
  | .hbm, ⟨5, _⟩ => ⟨S2x32x196x24x128, .f32⟩
  | .hbm, ⟨6, _⟩ => ⟨S2x32x196x24x128, .f32⟩
  | .hbm, ⟨7, _⟩ => ⟨S12544x24x128, .f32⟩
  | .hbm, ⟨8, _⟩ => ⟨S3136x48x128, .bf16⟩
  | .hbm, ⟨9, _⟩ => ⟨S14x24x128, .f32⟩
  | .hbm, ⟨10, _⟩ => ⟨S24x128, .f32⟩
  | .hbm, ⟨11, _⟩ => ⟨S24x128, .f32⟩
  | .hbm, ⟨12, _⟩ => ⟨S24x128, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S448x24x128, .f32⟩
  | .local _ .vmem, ⟨1, _⟩ => ⟨S448x24x128, .f32⟩
  | .local _ .vmem, ⟨2, _⟩ => ⟨S224x48x128, .bf16⟩
  | .local _ .vmem, ⟨3, _⟩ => ⟨S224x48x128, .bf16⟩
  | .local _ .vmem, ⟨4, _⟩ => ⟨S1x24x128, .f32⟩
  | .local _ .vmem, ⟨5, _⟩ => ⟨S1x24x128, .f32⟩
  | .local _ .vmem, ⟨6, _⟩ => ⟨S24x128, .f32⟩
  | .local _ .vmem, ⟨7, _⟩ => ⟨S24x128, .f32⟩
  | .local _ .vmem, ⟨8, _⟩ => ⟨S24x128, .f32⟩
  | .local _ .vmem, ⟨9, _⟩ => ⟨S24x128, .f32⟩
  | .local _ .vmem, ⟨10, _⟩ => ⟨S224x48x128, .bf16⟩
  | .local _ .vmem, ⟨11, _⟩ => ⟨S224x48x128, .bf16⟩
  | .local _ .vmem, ⟨12, _⟩ => ⟨S1x24x128, .f32⟩
  | .local _ .vmem, ⟨13, _⟩ => ⟨S1x24x128, .f32⟩
  | .local _ .vmem, ⟨14, _⟩ => ⟨S24x128, .f32⟩
  | .local _ .vmem, ⟨15, _⟩ => ⟨S24x128, .f32⟩
  | .local _ .vmem, ⟨16, _⟩ => ⟨S24x128, .f32⟩
  | .local _ .vmem, ⟨17, _⟩ => ⟨S24x128, .f32⟩
  | .local _ .vmem, ⟨18, _⟩ => ⟨S24x128, .f32⟩
  | .local _ .vmem, ⟨19, _⟩ => ⟨S224x48x128, .bf16⟩
  | .local _ .vmem, ⟨20, _⟩ => ⟨S224x48x128, .bf16⟩
  | .local _ .vmem, ⟨21, _⟩ => ⟨S448x24x128, .f32⟩
  | .local _ .vmem, ⟨22, _⟩ => ⟨S448x24x128, .f32⟩
  | .local _ .vmem, ⟨23, _⟩ => ⟨S1x24x128, .f32⟩
  | .local _ .vmem, ⟨24, _⟩ => ⟨S1x24x128, .f32⟩
  | .local _ .vmem, ⟨25, _⟩ => ⟨S24x128, .f32⟩
  | .local _ .vmem, ⟨26, _⟩ => ⟨S24x128, .f32⟩
  | .local _ .smem, ⟨0, _⟩ => ⟨S1x1, .f32⟩
  | _, _ => ⟨S2x32x196x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v32 : BitVec 1 := Scalar.cmpi .eq arg0 c13_i32
  let v33 : BitVec 32 := Scalar.extui v32
  let c0_i32_19 : BitVec 32 := 0#32
  let v34 : BitVec 1 := Scalar.cmpi .ne v33 c0_i32_19
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S448x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x48x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![28], ![false]⟩

def k1_cond3 (i : grid1.Coords) : BitVec 1 :=
  let arg0 : BitVec 32 := BitVec.ofNat 32 (i 0).val
  let c14_i32 : BitVec 32 := 14#32
  let c0_i32 : BitVec 32 := 0#32
  let v0 : BitVec 1 := Scalar.cmpi .eq c14_i32 c0_i32
  let c1_i32 : BitVec 32 := 1#32
  let v1 : BitVec 32 := Scalar.select v0 c1_i32 c14_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c13_i32 : BitVec 32 := 13#32
  let v44 : BitVec 1 := Scalar.cmpi .eq v9 c13_i32
  let v45 : BitVec 32 := Scalar.extui v44
  let c0_i32_22 : BitVec 32 := 0#32
  let v46 : BitVec 1 := Scalar.cmpi .ne v45 c0_i32_22
  v46

def cc1_transform_0 (i : grid1.Coords) : Fin 3 → Nat :=
  let arg0 : BitVec 32 := BitVec.ofNat 32 (i 0).val
  let c14_i32 : BitVec 32 := 14#32
  let c0_i32 : BitVec 32 := 0#32
  let v0 : BitVec 1 := Scalar.cmpi .eq c14_i32 c0_i32
  let c1_i32 : BitVec 32 := 1#32
  let v1 : BitVec 32 := Scalar.select v0 c1_i32 c14_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_1 (i : grid1.Coords) : Fin 3 → Nat :=
  let arg0 : BitVec 32 := BitVec.ofNat 32 (i 0).val
  let c14_i32 : BitVec 32 := 14#32
  let c0_i32 : BitVec 32 := 0#32
  let v0 : BitVec 1 := Scalar.cmpi .eq c14_i32 c0_i32
  let c1_i32 : BitVec 32 := 1#32
  let v1 : BitVec 32 := Scalar.select v0 c1_i32 c14_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S224x48x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x24x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S24x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S24x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![14], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S224x48x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S448x24x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x24x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S24x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S24x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== KernelIdeal.lean ====
variable {F : FTy → Type} [FloatOps F] [Named F]
def κ : String → Option EReal := fun
  | "inv_k" => some ((1 / 3000 : ℝ) : EReal)
  | "inv_n" => some ((1 / 6272 : ℝ) : EReal)
  | "pad" => some ⊥
  | _ => none
-- ==== ReferenceIdeal.lean ====
abbrev S2x32x196x128 : Shape := ⟨4, ![2, 32, 196, 128]⟩
abbrev S2x32x196x3000 : Shape := ⟨4, ![2, 32, 196, 3000]⟩
abbrev S2x32x196 : Shape := ⟨3, ![2, 32, 196]⟩
abbrev S1x32x196x3000 : Shape := ⟨4, ![1, 32, 196, 3000]⟩
abbrev S32x196x3000 : Shape := ⟨3, ![32, 196, 3000]⟩
abbrev S6272x3000 : Shape := ⟨2, ![6272, 3000]⟩
abbrev S_ : Shape := ⟨0, ![]⟩
abbrev S3000x6272 : Shape := ⟨2, ![3000, 6272]⟩
abbrev S3000 : Shape := ⟨1, ![3000]⟩
abbrev S6272 : Shape := ⟨1, ![6272]⟩
abbrev S3000x1 : Shape := ⟨2, ![3000, 1]⟩
abbrev S1x6272 : Shape := ⟨2, ![1, 6272]⟩
abbrev S6272x1 : Shape := ⟨2, ![6272, 1]⟩

abbrev nBuf : Space → Nat
  | .hbm => 109
  | .vmem => 0
  | .smem => 0
  | _ => 0

abbrev bufTy : (tb : Table) → Fin (tcTables nBuf tb) → BufTy
  | .hbm, ⟨0, _⟩ => ⟨S2x32x196x128, .f32⟩
  | .hbm, ⟨1, _⟩ => ⟨S2x32x196x3000, .f32⟩
  | .hbm, ⟨2, _⟩ => ⟨S2x32x196, .i32⟩
  | .hbm, ⟨3, _⟩ => ⟨S1x32x196x3000, .f32⟩
  | .hbm, ⟨4, _⟩ => ⟨S32x196x3000, .f32⟩
  | .hbm, ⟨5, _⟩ => ⟨S6272x3000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S6272x3000, .f32⟩
  | .hbm, ⟨10, _⟩ => ⟨S6272x3000, .f32⟩
  | .hbm, ⟨11, _⟩ => ⟨S_, .f32⟩
  | .hbm, ⟨12, _⟩ => ⟨S_, .f32⟩
  | .hbm, ⟨13, _⟩ => ⟨S6272x3000, .f32⟩
  | .hbm, ⟨14, _⟩ => ⟨S6272x3000, .f32⟩
  | .hbm, ⟨15, _⟩ => ⟨S6272x3000, .f32⟩
  | .hbm, ⟨16, _⟩ => ⟨S3000x6272, .f32⟩
  | .hbm, ⟨17, _⟩ => ⟨S_, .f32⟩
  | .hbm, ⟨18, _⟩ => ⟨S_, .f32⟩
  | .hbm, ⟨19, _⟩ => ⟨S3000x6272, .f32⟩
  | .hbm, ⟨20, _⟩ => ⟨S3000x6272, .f32⟩
  | .hbm, ⟨21, _⟩ => ⟨S_, .f32⟩
  | .hbm, ⟨22, _⟩ => ⟨S3000, .f32⟩
  | .hbm, ⟨23, _⟩ => ⟨S_, .f32⟩
  | .hbm, ⟨24, _⟩ => ⟨S3000, .f32⟩
  | .hbm, ⟨25, _⟩ => ⟨S3000, .f32⟩
  | .hbm, ⟨26, _⟩ => ⟨S_, .f32⟩
  | .hbm, ⟨27, _⟩ => ⟨S6272, .f32⟩
  | .hbm, ⟨28, _⟩ => ⟨S_, .f32⟩
  | .hbm, ⟨29, _⟩ => ⟨S6272, .f32⟩
  | .hbm, ⟨30, _⟩ => ⟨S6272, .f32⟩
  | .hbm, ⟨31, _⟩ => ⟨S_, .f32⟩
  | .hbm, ⟨32, _⟩ => ⟨S3000, .f32⟩
  | .hbm, ⟨33, _⟩ => ⟨S3000, .f32⟩
  | .hbm, ⟨34, _⟩ => ⟨S3000x1, .f32⟩
  | .hbm, ⟨35, _⟩ => ⟨S3000x6272, .f32⟩
  | .hbm, ⟨36, _⟩ => ⟨S3000x6272, .f32⟩
  | .hbm, ⟨37, _⟩ => ⟨S_, .f32⟩
  | .hbm, ⟨38, _⟩ => ⟨S6272, .f32⟩
  | .hbm, ⟨39, _⟩ => ⟨S6272, .f32⟩
  | .hbm, ⟨40, _⟩ => ⟨S1x6272, .f32⟩
  | .hbm, ⟨41, _⟩ => ⟨S3000x6272, .f32⟩
  | .hbm, ⟨42, _⟩ => ⟨S3000x6272, .f32⟩
  | .hbm, ⟨43, _⟩ => ⟨S_, .f32⟩
  | .hbm, ⟨44, _⟩ => ⟨S3000, .f32⟩
  | .hbm, ⟨45, _⟩ => ⟨S3000, .f32⟩
  | .hbm, ⟨46, _⟩ => ⟨S3000x1, .f32⟩
  | .hbm, ⟨47, _⟩ => ⟨S3000x6272, .f32⟩
  | .hbm, ⟨48, _⟩ => ⟨S3000x6272, .f32⟩
  | .hbm, ⟨49, _⟩ => ⟨S_, .f32⟩
  | .hbm, ⟨50, _⟩ => ⟨S6272, .f32⟩
  | .hbm, ⟨51, _⟩ => ⟨S6272, .f32⟩
  | .hbm, ⟨52, _⟩ => ⟨S1x6272, .f32⟩
  | .hbm, ⟨53, _⟩ => ⟨S3000x6272, .f32⟩
  | .hbm, ⟨54, _⟩ => ⟨S3000x6272, .f32⟩
  | .hbm, ⟨55, _⟩ => ⟨S_, .f32⟩
  | .hbm, ⟨56, _⟩ => ⟨S3000, .f32⟩
  | .hbm, ⟨57, _⟩ => ⟨S3000, .f32⟩
  | .hbm, ⟨58, _⟩ => ⟨S3000x1, .f32⟩
  | .hbm, ⟨59, _⟩ => ⟨S3000x6272, .f32⟩
  | .hbm, ⟨60, _⟩ => ⟨S3000x6272, .f32⟩
  | .hbm, ⟨61, _⟩ => ⟨S_, .f32⟩
  | .hbm, ⟨62, _⟩ => ⟨S6272, .f32⟩
  | .hbm, ⟨63, _⟩ => ⟨S6272, .f32⟩
  | .hbm, ⟨64, _⟩ => ⟨S1x6272, .f32⟩
  | .hbm, ⟨65, _⟩ => ⟨S3000x6272, .f32⟩
  | .hbm, ⟨66, _⟩ => ⟨S3000x6272, .f32⟩
  | .hbm, ⟨67, _⟩ => ⟨S_, .f32⟩
  | .hbm, ⟨68, _⟩ => ⟨S6272, .f32⟩
  | .hbm, ⟨69, _⟩ => ⟨S1x6272, .f32⟩
  | .hbm, ⟨70, _⟩ => ⟨S3000x6272, .f32⟩
  | .hbm, ⟨71, _⟩ => ⟨S3000x6272, .f32⟩
  | .hbm, ⟨72, _⟩ => ⟨S6272x3000, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1x32x196x3000, .f32⟩
  | .hbm, ⟨77, _⟩ => ⟨S32x196x3000, .f32⟩
  | .hbm, ⟨78, _⟩ => ⟨S6272x3000, .f32⟩
  | .hbm, ⟨79, _⟩ => ⟨S6272x3000, .f32⟩
  | .hbm, ⟨80, _⟩ => ⟨S6272x3000, .f32⟩
  | .hbm, ⟨81, _⟩ => ⟨S_, .f32⟩
  | .hbm, ⟨82, _⟩ => ⟨S6272, .f32⟩
  | .hbm, ⟨83, _⟩ => ⟨S_, .f32⟩
  | .hbm, ⟨84, _⟩ => ⟨S6272, .f32⟩
  | .hbm, ⟨85, _⟩ => ⟨S6272, .f32⟩
  | .hbm, ⟨86, _⟩ => ⟨S6272x1, .f32⟩
  | .hbm, ⟨87, _⟩ => ⟨S6272x3000, .f32⟩
  | .hbm, ⟨88, _⟩ => ⟨S6272x3000, .f32⟩
  | .hbm, ⟨89, _⟩ => ⟨S6272x3000, .f32⟩
  | .hbm, ⟨90, _⟩ => ⟨S_, .f32⟩
  | .hbm, ⟨91, _⟩ => ⟨S6272, .f32⟩
  | .hbm, ⟨92, _⟩ => ⟨S6272x1, .f32⟩
  | .hbm, ⟨93, _⟩ => ⟨S6272x1, .f32⟩
  | .hbm, ⟨94, _⟩ => ⟨S6272x3000, .f32⟩
  | .hbm, ⟨95, _⟩ => ⟨S6272x3000, .f32⟩
  | .hbm, ⟨96, _⟩ => ⟨S6272x3000, .f32⟩
  | .hbm, ⟨97, _⟩ => ⟨S_, .f32⟩
  | .hbm, ⟨98, _⟩ => ⟨S6272, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S2x32x196x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call0_cst : Ref sig .tc := ⟨.hbm, 81, rfl⟩
abbrev main_call0_v0 : Ref sig .tc := ⟨.hbm, 82, rfl⟩
abbrev main_call0_cst_0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_cst_1 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_cst_19 : Ref sig .tc := ⟨.hbm, 103, rfl⟩
abbrev main_v66 : Ref sig .tc := ⟨.hbm, 104, rfl⟩
abbrev main_cst_20 : Ref sig .tc := ⟨.hbm, 105, rfl⟩
abbrev main_v67 : Ref sig .tc := ⟨.hbm, 106, rfl⟩
abbrev main_cst_21 : Ref sig .tc := ⟨.hbm, 107, rfl⟩
abbrev main_v68 : Ref sig .tc := ⟨.hbm, 108, rfl⟩

abbrev nD : Nat := 1
abbrev τ : Topo := Topo.v7x

variable {F : FTy → Type} [FloatOps F]
-- ==== Proof.Whole.lean ====
/-
  A buffer held whole: what a load of all of it gives, and what it reads after a store of all of it.
-/
module

public import Idealize.ShloMosaic.Lib.Pipeline.FrameBody
public import Idealize.ShloMosaic.Lib.VecWindow

@[expose] public section

namespace Cert.Whole

open Idealize.ShloMosaic

variable {sig : RefSig} {κ : Kind} {sp : Space} {s : Shape} {e : EltTy} {Val : EltTy → Type}

/-- Loading all of a buffer that reads `x` gives `x`. -/
theorem load (m : Memref sig κ sp s e) (h : m.IsWhole) (off : Fin s.rank → ℕ) (inb) (x : s.Idx → Val e) :
    m.view.readAt Val (Rect.unit off s.size inb).toLoadRect (h.unread x) = x := by
  rw [View.readAt_full, h.read_unread]

/-- Loading all of a buffer whose newest store wrote all of it gives what that store wrote. -/
theorem reload [∀ e, Nonempty (Val e)] (m : Memref sig κ sp s e) (off off' : Fin s.rank → ℕ) (inb inb') (x : s.Idx → Val e) (f) (ps) :
    m.view.readAt Val (Rect.unit off s.size inb).toLoadRect (m.view.writes Val f (⟨Rect.unit off' s.size inb', x⟩ :: ps)) = x := by
  rw [View.readAt_full, View.read_writes_full]

end Cert.Whole
-- ==== Proof.Ideal.Pass1Body.lean ====
/-
  The first kernel's body at one grid point, as triples: from its block of scores and the running column maxima and
  column sums held at known contents, it ends with the block's exponentials, the maxima they were taken against, and the
  two running arrays updated; at the last point it also writes the maxima and the first column weights out.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import proofs.«01_k».proof.Proof.Whole
public import Idealize.ShloMosaic.Lib.Ring
public import Idealize.ShloMosaic.Lib.Tactic
public import Idealize.ShloMosaic.Lib.WordCmp

@[expose] public section

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body starts the running arrays at this point. -/
abbrev first (i : grid0.Coords) : Prop :=
  (Scalar.cmpi .ne (Scalar.extui (Scalar.cmpi .eq (BitVec.ofNat 32 (i 0).val) 0#32)) 0#32) = 1#1

/-- The body writes its results out at this point. -/
abbrev last (i : grid0.Coords) : Prop := k0_cond2 i = 1#1

set_option maxHeartbeats 2000000 in
/-- The first point starts from its own initial arrays, whatever the scratch held. -/
theorem body_first (c : Dev nD) (i : grid0.Coords) (arg1 : Memref sig .tc .vmem S448x24x128 .f32) (harg1 : arg1.IsWhole)
    (arg2 : Memref sig .tc .vmem S224x48x128 .bf16) (harg2 : arg2.IsWhole) (arg3 : Memref sig .tc .vmem S1x24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : first i) (hl : ¬last i)
    (x : Vec F S448x24x128 .f32) (a₀ : Vec F S224x48x128 .bf16) (b₀ : Vec F S1x24x128 .f32) (m p : Vec F S24x128 .f32)
    (E : Set ℕ) (K : PUnit → sProp 𝕄) :
    iprop(owns (c : Thread nD τ) arg1 fullShare x
        ∗ owns (c : Thread nD τ) arg2 fullShare a₀
        ∗ owns (c : Thread nD τ) arg3 fullShare b₀
        ∗ owns (c : Thread nD τ) arg6 fullShare m
        ∗ owns (c : Thread nD τ) arg7 fullShare p
        ∗ (iprop(owns (c : Thread nD τ) arg1 fullShare x
        ∗ owns (c : Thread nD τ) arg2 fullShare (k0_pay7 x k0_pay2)
        ∗ owns (c : Thread nD τ) arg3 fullShare (k0_pay8 x k0_pay2)
        ∗ owns (c : Thread nD τ) arg6 fullShare (k0_pay10 x k0_pay2)
        ∗ owns (c : Thread nD τ) arg7 fullShare (k0_pay9 x k0_pay2 k0_pay3)) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  simp only [k0_part1_eq_skeleton]
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1
  obtain rfl := harg2.eq_unread hf2
  obtain rfl := harg3.eq_unread hf3
  obtain rfl := harg6.eq_unread hf6
  obtain rfl := harg7.eq_unread hf7
  sl_exec (disch := first | sl_exact hc | sl_exact hl)
  sl_step
  iapply Hk
  isplitl [H1]
  · iexists _; isplitr; · ipureintro; exact harg1.read_unread _
    iexact H1
  isplitl [H2]
  · iexists _; isplitr; swap; · iexact H2
    ipureintro
    sl_unfold_words
    rw [View.read_writes_full]
    repeat (first | rw [Whole.load] | rw [View.readAt_writes_full] | rw [View.readCov_full])
  isplitl [H3]
  · iexists _; isplitr; swap; · iexact H3
    ipureintro
    sl_unfold_words
    rw [View.read_writes_full]
    repeat (first | rw [Whole.load] | rw [View.readAt_writes_full] | rw [View.readCov_full])
  isplitl [H6]
  · iexists _; isplitr; swap; · iexact H6
    ipureintro
    sl_unfold_words
    rw [View.read_writes_full]
    repeat (first | rw [Whole.load] | rw [View.readAt_writes_full] | rw [View.readCov_full])
  iexists _; isplitr; swap; · iexact H7
  ipureintro
  sl_unfold_words
  rw [View.read_writes_full]
  repeat (first | rw [Whole.load] | rw [View.readAt_writes_full] | rw [View.readCov_full])

set_option maxHeartbeats 2000000 in
/-- A later point starts from what the scratch holds. -/
theorem body_mid (c : Dev nD) (i : grid0.Coords) (arg1 : Memref sig .tc .vmem S448x24x128 .f32) (harg1 : arg1.IsWhole)
    (arg2 : Memref sig .tc .vmem S224x48x128 .bf16) (harg2 : arg2.IsWhole) (arg3 : Memref sig .tc .vmem S1x24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : ¬first i) (hl : ¬last i)
    (x : Vec F S448x24x128 .f32) (a₀ : Vec F S224x48x128 .bf16) (b₀ : Vec F S1x24x128 .f32) (m p : Vec F S24x128 .f32)
    (E : Set ℕ) (K : PUnit → sProp 𝕄) :
    iprop(owns (c : Thread nD τ) arg1 fullShare x
        ∗ owns (c : Thread nD τ) arg2 fullShare a₀
        ∗ owns (c : Thread nD τ) arg3 fullShare b₀
        ∗ owns (c : Thread nD τ) arg6 fullShare m
        ∗ owns (c : Thread nD τ) arg7 fullShare p
        ∗ (iprop(owns (c : Thread nD τ) arg1 fullShare x
        ∗ owns (c : Thread nD τ) arg2 fullShare (k0_pay7 x m)
        ∗ owns (c : Thread nD τ) arg3 fullShare (k0_pay8 x m)
        ∗ owns (c : Thread nD τ) arg6 fullShare (k0_pay10 x m)
        ∗ owns (c : Thread nD τ) arg7 fullShare (k0_pay9 x m p)) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  simp only [k0_part1_eq_skeleton]
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1
  obtain rfl := harg2.eq_unread hf2
  obtain rfl := harg3.eq_unread hf3
  obtain rfl := harg6.eq_unread hf6
  obtain rfl := harg7.eq_unread hf7
  sl_exec (disch := first | sl_exact hc | sl_exact hl)
  sl_step
  iapply Hk
  isplitl [H1]
  · iexists _; isplitr; · ipureintro; exact harg1.read_unread _
    iexact H1
  isplitl [H2]
  · iexists _; isplitr; swap; · iexact H2
    ipureintro
    sl_unfold_words
    rw [View.read_writes_full]
    repeat (first | rw [Whole.load] | rw [View.readAt_writes_full] | rw [View.readCov_full])
  isplitl [H3]
  · iexists _; isplitr; swap; · iexact H3
    ipureintro
    sl_unfold_words
    rw [View.read_writes_full]
    repeat (first | rw [Whole.load] | rw [View.readAt_writes_full] | rw [View.readCov_full])
  isplitl [H6]
  · iexists _; isplitr; swap; · iexact H6
    ipureintro
    sl_unfold_words
    rw [View.read_writes_full]
    repeat (first | rw [Whole.load] | rw [View.readAt_writes_full] | rw [View.readCov_full])
  iexists _; isplitr; swap; · iexact H7
  ipureintro
  sl_unfold_words
  rw [View.read_writes_full]
  repeat (first | rw [Whole.load] | rw [View.readAt_writes_full] | rw [View.readCov_full])

set_option maxHeartbeats 2000000 in
/-- The last point also writes the final maxima and the first column weights out. -/
theorem body_last (c : Dev nD) (i : grid0.Coords) (arg1 : Memref sig .tc .vmem S448x24x128 .f32) (harg1 : arg1.IsWhole)
    (arg2 : Memref sig .tc .vmem S224x48x128 .bf16) (harg2 : arg2.IsWhole) (arg3 : Memref sig .tc .vmem S1x24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : ¬first i) (hl : last i)
    (x : Vec F S448x24x128 .f32) (a₀ : Vec F S224x48x128 .bf16) (b₀ : Vec F S1x24x128 .f32) (m p : Vec F S24x128 .f32) (m₀ w₀ : Vec F S24x128 .f32)
    (E : Set ℕ) (K : PUnit → sProp 𝕄) :
    iprop(owns (c : Thread nD τ) arg1 fullShare x
        ∗ owns (c : Thread nD τ) arg2 fullShare a₀
        ∗ owns (c : Thread nD τ) arg3 fullShare b₀
        ∗ owns (c : Thread nD τ) arg4 fullShare m₀
        ∗ owns (c : Thread nD τ) arg5 fullShare w₀
        ∗ owns (c : Thread nD τ) arg6 fullShare m
        ∗ owns (c : Thread nD τ) arg7 fullShare p
        ∗ (iprop(owns (c : Thread nD τ) arg1 fullShare x
        ∗ owns (c : Thread nD τ) arg2 fullShare (k0_pay7 x m)
        ∗ owns (c : Thread nD τ) arg3 fullShare (k0_pay8 x m)
        ∗ owns (c : Thread nD τ) arg4 fullShare (k0_pay10 x m)
        ∗ owns (c : Thread nD τ) arg5 fullShare (k0_pay1 (k0_pay9 x m p))
        ∗ owns (c : Thread nD τ) arg6 fullShare (k0_pay10 x m)
        ∗ owns (c : Thread nD τ) arg7 fullShare (k0_pay9 x m p)) -∗ K ⟨⟩))
      ⊢ wp frame (wpE (defs₀ (F := F)) Variants.none c none) E (cc0__pass1_body i arg1 harg1 arg2 harg2 arg3 harg3 arg4 harg4 arg5 harg5 arg6 harg6 arg7 harg7) K := by
  simp only [cc0__pass1_body_eq_skeleton]; unfold cc0__pass1_body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | sl_exact hc | sl_exact hl)
  sl_step
  iapply Hk
  isplitl [H1]
  · iexists _; isplitr; · ipureintro; exact harg1.read_unread _
    iexact H1
  isplitl [H2]
  · iexists _; isplitr; swap; · iexact H2
    ipureintro
    sl_unfold_words
    rw [View.read_writes_full]
    repeat (first | rw [Whole.load] | rw [View.readAt_writes_full] | rw [View.readCov_full])
  isplitl [H3]
  · iexists _; isplitr; swap; · iexact H3
    ipureintro
    sl_unfold_words
    rw [View.read_writes_full]
    repeat (first | rw [Whole.load] | rw [View.readAt_writes_full] | rw [View.readCov_full])
  isplitl [H4]
  · iexists _; isplitr; swap; · iexact H4
    ipureintro
    sl_unfold_words
    rw [View.read_writes_full]
    repeat (first | rw [Whole.load] | rw [View.readAt_writes_full] | rw [View.readCov_full])
  isplitl [H5]
  · iexists _; isplitr; swap; · iexact H5
    ipureintro
    sl_unfold_words
    rw [View.read_writes_full]
    repeat (first | rw [Whole.load] | rw [View.readAt_writes_full] | rw [View.readCov_full])
  isplitl [H6]
  · iexists _; isplitr; swap; · iexact H6
    ipureintro
    sl_unfold_words
    rw [View.read_writes_full]
    repeat (first | rw [Whole.load] | rw [View.readAt_writes_full] | rw [View.readCov_full])
  iexists _; isplitr; swap; · iexact H7
  ipureintro
  sl_unfold_words
  rw [View.read_writes_full]
  repeat (first | rw [Whole.load] | rw [View.readAt_writes_full] | rw [View.readCov_full])

end Cert.KernelIdeal.Pass1

end
-- ==== Proof.Ideal.Pass1Region.lean ====
/-
  The first kernel over its grid: what its outputs and its scratch hold after each block, and the proof that the body does
  that at every point, from whatever the arrays hold when the kernel starts.
-/
module

public import proofs.«01_k».proof.Proof.Ideal.Pass1Body
public import Idealize.ShloMosaic.Lib.Pipeline.RegionArraysS

@[expose] public section

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The block window `w` stages at point `t`, read from the arrays the kernel starts with. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The running column maxima and column sums after the first `n` blocks. -/
def state (c : Dev nD) : ℕ → Vec F S24x128 .f32 × Vec F S24x128 .f32
  | 0 => (k0_pay2, k0_pay3)
  | n + 1 => if h : n < cfg0.N then
      (k0_pay10 (iblk V c 0 ⟨n, h⟩) (state c n).1, k0_pay9 (iblk V c 0 ⟨n, h⟩) (state c n).1 (state c n).2)
    else state c n

/-- The running arrays after point `t`, over those before it. -/
theorem state_succ (c : Dev nD) (t : Fin cfg0.N) :
    state V c (t.val + 1) = (k0_pay10 (iblk V c 0 t) (state V c t.val).1, k0_pay9 (iblk V c 0 t) (state V c t.val).1 (state V c t.val).2) := by
  rw [state, dif_pos t.isLt]

/-- The scoped buffers beside the kernel's own scratch, at anything. -/
abbrev rest (c : Dev nD) : sProp 𝕄 := Pipeline.scopedRestBut spec0 c [cc0_scratch0, cc0_scratch1]

/-- The scoped buffers the kernel does not stage are its scratch and those. -/
theorem split (c : Dev nD) : (Pipeline.scopedRest spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ∗ rest c) :=
  Pipeline.scopedRest_split_of_list spec0 c [cc0_scratch0, cc0_scratch1] (by decide) (by decide)

/-- What is held after `n` points: the scratch, at `state` once a point has run, beside the rest. -/
def held (c : Dev nD) (n : ℕ) : sProp 𝕄 :=
  iprop(∃ (f g : Vec F S24x128 .f32), ⌜n ≠ 0 → f = (state V c n).1 ∧ g = (state V c n).2⌝
    ∗ owns (c : Thread nD τ) (Memref.whole cc0_scratch0) fullShare f ∗ owns (c : Thread nD τ) (Memref.whole cc0_scratch1) fullShare g ∗ rest c)

/-- The proof data: arrays as the kernel finds them, inputs left as fetched, outputs and scratch as `state` says. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => k0_pay7 (iblk V c 0 t) (state V c t.val).1
    | ⟨2, _⟩ => k0_pay8 (iblk V c 0 t) (state V c t.val).1
    | ⟨3, _⟩ => (state V c (t.val + 1)).1
    | ⟨4, _⟩ => k0_pay1 (state V c (t.val + 1)).2
  Φ t := held V c t.val
  q _ := fullShare
  owed _ := 0

theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = iblk V c 0 t := by dsimp only [dat]
theorem after_1 (c : Dev nD) (t : Fin cfg0.N) : (dat V c).after 1 t = k0_pay7 (iblk V c 0 t) (state V c t.val).1 := by dsimp only [dat]
theorem after_2 (c : Dev nD) (t : Fin cfg0.N) : (dat V c).after 2 t = k0_pay8 (iblk V c 0 t) (state V c t.val).1 := by dsimp only [dat]
theorem after_3 (c : Dev nD) (t : Fin cfg0.N) : (dat V c).after 3 t = (state V c (t.val + 1)).1 := by dsimp only [dat]
theorem after_4 (c : Dev nD) (t : Fin cfg0.N) : (dat V c).after 4 t = k0_pay1 (state V c (t.val + 1)).2 := by dsimp only [dat]

/-- An input's buffer holds its block at every point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The first point is the one that starts the running arrays, -/
theorem first_iff (t : Fin cfg0.N) : first (grid0.coords t) ↔ t.val = 0 := by
  have ht : t.val < 14 := lt_of_lt_of_eq t.isLt (show cfg0.N = 14 from N_0)
  have e0 : (grid0.coords t 0).val = t.val / 1 % 14 := Pipeline.Grid.coords_val t 0 (by decide) rfl
  have : first (grid0.coords t) ↔ t.val % 14 = 0 := by
    simp only [first, e0]
    word_cmp
  rw [this]
  omega

/-- and the last one the one that writes its results out. -/
theorem last_iff (t : Fin cfg0.N) : last (grid0.coords t) ↔ t.val = 13 :=
  (by decide +kernel : ∀ t : Fin grid0.N, last (grid0.coords t) ↔ t.val = 13) t

theorem idle_3 : ∀ t : Fin cfg0.N, ¬last (grid0.coords t) → cfg0.idle 3 (grid0.coords t) = true := by decide +kernel
theorem stays_3 : ∀ t : Fin cfg0.N, ¬last (grid0.coords t) → (cfg0.win 3).flush t = false := by decide +kernel
theorem live_3 : ∀ t : Fin cfg0.N, last (grid0.coords t) → cfg0.idle 3 (grid0.coords t) = false := by decide +kernel
theorem idle_4 : ∀ t : Fin cfg0.N, ¬last (grid0.coords t) → cfg0.idle 4 (grid0.coords t) = true := by decide +kernel
theorem stays_4 : ∀ t : Fin cfg0.N, ¬last (grid0.coords t) → (cfg0.win 4).flush t = false := by decide +kernel
theorem live_4 : ∀ t : Fin cfg0.N, last (grid0.coords t) → cfg0.idle 4 (grid0.coords t) = false := by decide +kernel

abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)
abbrev ms_4 (t : Fin cfg0.N) := win0_4.stage (cfg0.slots t 4)

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem Φ_eq (c : Dev nD) (t : Fin cfg0.N) : (dat V c).Φ t.castSucc = held V c t.val := by dsimp only [dat]; rfl
theorem Φ_succ (c : Dev nD) (t : Fin cfg0.N) : (dat V c).Φ t.succ = held V c (t.val + 1) := by dsimp only [dat]; rfl

theorem leaves_0 (c : Dev nD) (t : Fin cfg0.N) : (dat V c).leavesExact 0 t = owns (c : Thread nD τ) (ms_0 t) fullShare ((dat V c).after 0 t) := by
  unfold Dat.leavesExact; rw [show cfg0.idle 0 (grid0.coords t) = false from rfl]
theorem leaves_1 (c : Dev nD) (t : Fin cfg0.N) : (dat V c).leavesExact 1 t = owns (c : Thread nD τ) (ms_1 t) fullShare ((dat V c).after 1 t) := by
  unfold Dat.leavesExact; rw [show cfg0.idle 1 (grid0.coords t) = false from rfl]
theorem leaves_2 (c : Dev nD) (t : Fin cfg0.N) : (dat V c).leavesExact 2 t = owns (c : Thread nD τ) (ms_2 t) fullShare ((dat V c).after 2 t) := by
  unfold Dat.leavesExact; rw [show cfg0.idle 2 (grid0.coords t) = false from rfl]
theorem leaves_3 (c : Dev nD) (t : Fin cfg0.N) (h : last (grid0.coords t)) :
    (dat V c).leavesExact 3 t = owns (c : Thread nD τ) (ms_3 t) fullShare ((dat V c).after 3 t) := by
  unfold Dat.leavesExact; rw [live_3 t h]
theorem leaves_4 (c : Dev nD) (t : Fin cfg0.N) (h : last (grid0.coords t)) :
    (dat V c).leavesExact 4 t = owns (c : Thread nD τ) (ms_4 t) fullShare ((dat V c).after 4 t) := by
  unfold Dat.leavesExact; rw [live_4 t h]

set_option maxHeartbeats 2000000 in
/-- The body at any point takes the one to the other. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl, Φ_eq, Φ_succ, leaves_0, leaves_1, leaves_2,
    after_0, after_1, after_2]
  unfold held
  rw [state_succ]
  by_cases h0 : t.val = 0
  · have hl : ¬last (grid0.coords t) := fun h => by have := (last_iff t).mp h; omega
    rw [Dat.leavesExact_idle (dat V c) 3 t (idle_3 t hl) (stays_3 t hl), Dat.leavesExact_idle (dat V c) 4 t (idle_4 t hl) (stays_4 t hl)]
    rw [h0, state]
    iintro ⟨⟨%f, %g, %hfg, S0, S1, HR⟩, Ho, ⟨%d0, H0⟩, ⟨%d1, H1⟩, ⟨%d2, H2⟩, ⟨%d3, H3⟩, ⟨%d4, H4⟩⟩
    iapply (body_first c (grid0.coords t) _ _ _ _ _ _ _ _ _ _ _ _ _ _ ((first_iff t).mpr h0) hl (iblk V c 0 t) _ _ _ _ Set.univ _)
    isplitl [H0]; · iexact H0
    isplitl [H1]; · iexact H1
    isplitl [H2]; · iexact H2
    isplitl [S0]; · iexact S0
    isplitl [S1]; · iexact S1
    iintro ⟨H0, H1, H2, S0, S1⟩
    isplitl [S0 S1 HR]
    · iexists _, _; isplitr; swap
      · isplitl [S0]; · iexact S0
        isplitl [S1]; · iexact S1
        iexact HR
      · ipureintro; exact fun _ => ⟨rfl, rfl⟩
    isplitl [Ho]; · iexact Ho
    isplitl [H0]; · iexact H0
    isplitl [H1]; · iexact H1
    isplitl [H2]; · iexact H2
    isplitl [H3]; · iexists _; iexact H3
    iexists _; iexact H4
  · have hf : ¬first (grid0.coords t) := fun h => h0 ((first_iff t).mp h)
    by_cases hl : last (grid0.coords t)
    · rw [leaves_3 V c t hl, leaves_4 V c t hl, after_3, after_4, state_succ]
      iintro ⟨⟨%f, %g, %hfg, S0, S1, HR⟩, Ho, ⟨%d0, H0⟩, ⟨%d1, H1⟩, ⟨%d2, H2⟩, ⟨%d3, H3⟩, ⟨%d4, H4⟩⟩
      obtain ⟨rfl, rfl⟩ := hfg h0
      iapply (body_last c (grid0.coords t) _ _ _ _ _ _ _ _ _ _ _ _ _ _ hf hl (iblk V c 0 t) _ _ (state V c t.val).1 (state V c t.val).2 _ _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 HR]
      · iexists _, _; isplitr; swap
        · isplitl [S0]; · iexact S0
          isplitl [S1]; · iexact S1
          iexact HR
        · ipureintro; exact fun _ => ⟨rfl, rfl⟩
      isplitl [Ho]; · iexact Ho
      isplitl [H0]; · iexact H0
      isplitl [H1]; · iexact H1
      isplitl [H2]; · iexact H2
      isplitl [H3]; · iexact H3
      iexact H4
    · rw [Dat.leavesExact_idle (dat V c) 3 t (idle_3 t hl) (stays_3 t hl), Dat.leavesExact_idle (dat V c) 4 t (idle_4 t hl) (stays_4 t hl)]
      iintro ⟨⟨%f, %g, %hfg, S0, S1, HR⟩, Ho, ⟨%d0, H0⟩, ⟨%d1, H1⟩, ⟨%d2, H2⟩, ⟨%d3, H3⟩, ⟨%d4, H4⟩⟩
      obtain ⟨rfl, rfl⟩ := hfg h0
      iapply (body_mid c (grid0.coords t) _ _ _ _ _ _ _ _ _ _ _ _ _ _ hf hl (iblk V c 0 t) _ _ (state V c t.val).1 (state V c t.val).2 Set.univ _)
      isplitl [H0]; · iexact H0
      isplitl [H1]; · iexact H1
      isplitl [H2]; · iexact H2
      isplitl [S0]; · iexact S0
      isplitl [S1]; · iexact S1
      iintro ⟨H0, H1, H2, S0, S1⟩
      isplitl [S0 S1 HR]
      · iexists _, _; isplitr; swap
        · isplitl [S0]; · iexact S0
          isplitl [S1]; · iexact S1
          iexact HR
        · ipureintro; exact fun _ => ⟨rfl, rfl⟩
      isplitl [Ho]; · iexact Ho
      isplitl [H0]; · iexact H0
      isplitl [H1]; · iexact H1
      isplitl [H2]; · iexact H2
      isplitl [H3]; · iexists _; iexact H3
      iexists _; iexact H4

/-- The row the kernel's table of bodies gives at point `t`. -/
theorem defs₀_row (t : Fin cfg0.N) : defs₀ (F := F) .tc cfg0.body (cfg0.bodyArgs t (cfg0.slots t)) = bodyAt0 t := by
  unfold defs₀; rw [Defs.onTc_tc]

/-- The body does what the proof data say, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The kernel starts with its scratch at anything, -/
theorem enter (c : Dev nD) : (Pipeline.scopedRest spec0 c : sProp 𝕄) ⊢ (dat V c).Φ 0 := by
  rw [show (dat V c).Φ 0 = held V c 0 from by dsimp only [dat]; rfl, split]
  unfold held
  simp only [owns_whole]
  iintro ⟨⟨⟨%f, H0⟩, ⟨%g, H1⟩⟩, HR⟩
  iexists f, g
  isplitr; · ipureintro; exact fun h => absurd rfl h
  isplitl [H0]; · iexact H0
  isplitl [H1]; · iexact H1
  iexact HR

/-- and leaves it at something. -/
theorem leave (c : Dev nD) : (dat V c).Φ (Fin.last cfg0.N) ⊢ (Pipeline.scopedRest spec0 c : sProp 𝕄) := by
  rw [show (dat V c).Φ (Fin.last cfg0.N) = held V c cfg0.N from by dsimp only [dat]; rfl, split]
  unfold held
  simp only [owns_whole]
  iintro ⟨%f, %g, -, H0, H1, HR⟩
  isplitr [HR]
  · isplitl [H0]; · iexists f; iexact H0
    iexists g; iexact H1
  iexact HR

end Cert.KernelIdeal.Pass1

end
-- ==== Proof.Ideal.SweepBody.lean ====
/-
  The second kernel's body at one grid point, as triples. Its grid sweeps the blocks twice. From a block's exponentials
  and the column factors they were taken against, it adds the block to the running column sums; the first point of a
  sweep starts the sums over, the last one turns them into the next column weights.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import proofs.«01_k».proof.Proof.Whole
public import Idealize.ShloMosaic.Lib.Ring
public import Idealize.ShloMosaic.Lib.Tactic
public import Idealize.ShloMosaic.Lib.WordCmp

@[expose] public section

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running column sums after a block, over the sums `p` before it and the column weights `al` of the sweep. -/
def acc (a : Vec F S224x48x128 .bf16) (mb : Vec F S1x24x128 .f32) (mx al p : Vec F S24x128 .f32) : Vec F S24x128 .f32 :=
  k1_pay1 (k1_pay6 mb mx) (k1_pay7 a) (k1_pay8 mb mx a al) p

/-- The body takes the column weights in at this point. -/
abbrev first (i : grid1.Coords) : Prop :=
  (Scalar.cmpi .ne (Scalar.extui (Scalar.cmpi .eq (BitVec.ofNat 32 (i 0).val) 0#32)) 0#32) = 1#1

/-- The body starts the sums over at this point. -/
abbrev start (i : grid1.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 14#32 0#32) 1#32 14#32)) 0#32) (Scalar.cmpi .slt (Scalar.select (Scalar.cmpi .eq 14#32 0#32) 1#32 14#32) 0#32)) (Scalar.cmpi .ne (Scalar.remsi (BitVec.ofNat 32 (i 0).val) (Scalar.select (Scalar.cmpi .eq 14#32 0#32) 1#32 14#32)) 0#32)) (Scalar.addi (Scalar.remsi (BitVec.ofNat 32 (i 0).val) (Scalar.select (Scalar.cmpi .eq 14#32 0#32) 1#32 14#32)) (Scalar.select (Scalar.cmpi .eq 14#32 0#32) 1#32 14#32)) (Scalar.remsi (BitVec.ofNat 32 (i 0).val) (Scalar.select (Scalar.cmpi .eq 14#32 0#32) 1#32 14#32))) 0#32)) 0#32) = 1#1

/-- The body turns the sums into column weights at this point. -/
abbrev last (i : grid1.Coords) : Prop := k1_cond3 i = 1#1

set_option maxHeartbeats 2000000 in
/-- The first point of all takes the column weights in and starts the sums. -/
theorem body_first (c : Dev nD) (i : grid1.Coords) (arg1 : Memref sig .tc .vmem S224x48x128 .bf16) (harg1 : arg1.IsWhole)
    (arg2 : Memref sig .tc .vmem S1x24x128 .f32) (harg2 : arg2.IsWhole) (arg3 : Memref sig .tc .vmem S24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : first i) (hs : start i) (hl : ¬last i)
    (a : Vec F S224x48x128 .bf16) (mb : Vec F S1x24x128 .f32) (mx w p al : Vec F S24x128 .f32)
    (E : Set ℕ) (K : PUnit → sProp 𝕄) :
    iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg6 fullShare p
        ∗ owns (c : Thread nD τ) arg7 fullShare al
        ∗ (iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg6 fullShare (acc a mb mx (k1_pay4 w) k1_pay5)
        ∗ owns (c : Thread nD τ) arg7 fullShare (k1_pay4 w)) -∗ K ⟨⟩))
      ⊢ wp frame (wpE (defs₀ (F := F)) Variants.none c none) E (cc1__qp_body i arg1 harg1 arg2 harg2 arg3 harg3 arg4 harg4 arg5 harg5 arg6 harg6 arg7 harg7) K := by
  simp only [cc1__qp_body_eq_skeleton]; unfold cc1__qp_body_skel
  simp only [k1_part1_eq_skeleton]
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg6.eq_unread hf6
  obtain rfl := harg7.eq_unread hf7
  sl_exec (disch := first | sl_exact hc | sl_exact hs | sl_exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; swap; · iexact H6
    ipureintro
    sl_unfold_words
    rw [View.read_writes_full]
    repeat (first | rw [Whole.load] | rw [View.readAt_writes_full] | rw [View.readCov_full])
    try rfl
  iexists _; isplitr; swap; · iexact H7
  ipureintro
  sl_unfold_words
  rw [View.read_writes_full]
  repeat (first | rw [Whole.load] | rw [View.readAt_writes_full] | rw [View.readCov_full])
  try rfl

set_option maxHeartbeats 2000000 in
/-- The first point of the other sweep starts the sums over. -/
theorem body_start (c : Dev nD) (i : grid1.Coords) (arg1 : Memref sig .tc .vmem S224x48x128 .bf16) (harg1 : arg1.IsWhole)
    (arg2 : Memref sig .tc .vmem S1x24x128 .f32) (harg2 : arg2.IsWhole) (arg3 : Memref sig .tc .vmem S24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : ¬first i) (hs : start i) (hl : ¬last i)
    (a : Vec F S224x48x128 .bf16) (mb : Vec F S1x24x128 .f32) (mx w p al : Vec F S24x128 .f32)
    (E : Set ℕ) (K : PUnit → sProp 𝕄) :
    iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg6 fullShare p
        ∗ owns (c : Thread nD τ) arg7 fullShare al
        ∗ (iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg6 fullShare (acc a mb mx al k1_pay5)
        ∗ owns (c : Thread nD τ) arg7 fullShare al) -∗ K ⟨⟩))
      ⊢ wp frame (wpE (defs₀ (F := F)) Variants.none c none) E (cc1__qp_body i arg1 harg1 arg2 harg2 arg3 harg3 arg4 harg4 arg5 harg5 arg6 harg6 arg7 harg7) K := by
  simp only [cc1__qp_body_eq_skeleton]; unfold cc1__qp_body_skel
  simp only [k1_part1_eq_skeleton]
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg6.eq_unread hf6
  obtain rfl := harg7.eq_unread hf7
  sl_exec (disch := first | sl_exact hc | sl_exact hs | sl_exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; swap; · iexact H6
    ipureintro
    sl_unfold_words
    rw [View.read_writes_full]
    repeat (first | rw [Whole.load] | rw [View.readAt_writes_full] | rw [View.readCov_full])
    try rfl
  iexists _; isplitr; · ipureintro; exact harg7.read_unread _
  iexact H7

set_option maxHeartbeats 2000000 in
/-- A point inside a sweep adds its block to the sums. -/
theorem body_mid (c : Dev nD) (i : grid1.Coords) (arg1 : Memref sig .tc .vmem S224x48x128 .bf16) (harg1 : arg1.IsWhole)
    (arg2 : Memref sig .tc .vmem S1x24x128 .f32) (harg2 : arg2.IsWhole) (arg3 : Memref sig .tc .vmem S24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : ¬first i) (hs : ¬start i) (hl : ¬last i)
    (a : Vec F S224x48x128 .bf16) (mb : Vec F S1x24x128 .f32) (mx w p al : Vec F S24x128 .f32)
    (E : Set ℕ) (K : PUnit → sProp 𝕄) :
    iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg6 fullShare p
        ∗ owns (c : Thread nD τ) arg7 fullShare al
        ∗ (iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg6 fullShare (acc a mb mx al p)
        ∗ owns (c : Thread nD τ) arg7 fullShare al) -∗ K ⟨⟩))
      ⊢ wp frame (wpE (defs₀ (F := F)) Variants.none c none) E (cc1__qp_body i arg1 harg1 arg2 harg2 arg3 harg3 arg4 harg4 arg5 harg5 arg6 harg6 arg7 harg7) K := by
  simp only [cc1__qp_body_eq_skeleton]; unfold cc1__qp_body_skel
  simp only [k1_part1_eq_skeleton]
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg6.eq_unread hf6
  obtain rfl := harg7.eq_unread hf7
  sl_exec (disch := first | sl_exact hc | sl_exact hs | sl_exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; swap; · iexact H6
    ipureintro
    sl_unfold_words
    rw [View.read_writes_full]
    repeat (first | rw [Whole.load] | rw [View.readAt_writes_full] | rw [View.readCov_full])
    try rfl
  iexists _; isplitr; · ipureintro; exact harg7.read_unread _
  iexact H7

set_option maxHeartbeats 2000000 in
/-- The last point of a sweep turns the sums into the next column weights. -/
theorem body_last (c : Dev nD) (i : grid1.Coords) (arg1 : Memref sig .tc .vmem S224x48x128 .bf16) (harg1 : arg1.IsWhole)
    (arg2 : Memref sig .tc .vmem S1x24x128 .f32) (harg2 : arg2.IsWhole) (arg3 : Memref sig .tc .vmem S24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .vmem S24x128 .f32) (harg6 : arg6.IsWhole) (arg7 : Memref sig .tc .vmem S24x128 .f32) (harg7 : arg7.IsWhole)
    (hc : ¬first i) (hs : ¬start i) (hl : last i)
    (a : Vec F S224x48x128 .bf16) (mb : Vec F S1x24x128 .f32) (mx w p al : Vec F S24x128 .f32) (o : Vec F S24x128 .f32)
    (E : Set ℕ) (K : PUnit → sProp 𝕄) :
    iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg5 fullShare o
        ∗ owns (c : Thread nD τ) arg6 fullShare p
        ∗ owns (c : Thread nD τ) arg7 fullShare al
        ∗ (iprop(owns (c : Thread nD τ) arg1 fullShare a
        ∗ owns (c : Thread nD τ) arg2 fullShare mb
        ∗ owns (c : Thread nD τ) arg3 fullShare mx
        ∗ owns (c : Thread nD τ) arg4 fullShare w
        ∗ owns (c : Thread nD τ) arg5 fullShare (k1_pay2 (acc a mb mx al p))
        ∗ owns (c : Thread nD τ) arg6 fullShare (acc a mb mx al p)
        ∗ owns (c : Thread nD τ) arg7 fullShare (k1_pay3 (acc a mb mx al p))) -∗ K ⟨⟩))
      ⊢ wp frame (wpE (defs₀ (F := F)) Variants.none c none) E (cc1__qp_body i arg1 harg1 arg2 harg2 arg3 harg3 arg4 harg4 arg5 harg5 arg6 harg6 arg7 harg7) K := by
  simp only [cc1__qp_body_eq_skeleton]; unfold cc1__qp_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | sl_exact hc | sl_exact hs | sl_exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    rw [View.read_writes_full]
    repeat (first | rw [Whole.load] | rw [View.readAt_writes_full] | rw [View.readCov_full])
    try rfl
  isplitl [H6]
  · iexists _; isplitr; swap; · iexact H6
    ipureintro
    sl_unfold_words
    rw [View.read_writes_full]
    repeat (first | rw [Whole.load] | rw [View.readAt_writes_full] | rw [View.readCov_full])
    try rfl
  iexists _; isplitr; swap; · iexact H7
  ipureintro
  sl_unfold_words
  rw [View.read_writes_full]
  repeat (first | rw [Whole.load] | rw [View.readAt_writes_full] | rw [View.readCov_full])
  try rfl

end Cert.KernelIdeal.Sweep

end
-- ==== Proof.Ideal.SweepRegion.lean ====
/-
  The second kernel over its grid: what its output and its scratch hold after each point, and the proof that the body does
  that at every point, from whatever the arrays hold when the kernel starts.
-/
module

public import proofs.«01_k».proof.Proof.Ideal.SweepBody
public import Idealize.ShloMosaic.Lib.Pipeline.RegionArraysS

@[expose] public section

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The block window `w` stages at point `t`, read from the arrays the kernel starts with. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- One point's update of the running sums and column weights `s`: point 0 takes the weights in, the first point of a sweep
    starts the sums over, the last one turns them into the next weights. -/
def point (n : ℕ) (a : Vec F S224x48x128 .bf16) (mb : Vec F S1x24x128 .f32) (mx w : Vec F S24x128 .f32)
    (s : Vec F S24x128 .f32 × Vec F S24x128 .f32) : Vec F S24x128 .f32 × Vec F S24x128 .f32 :=
  if n = 0 then (acc a mb mx (k1_pay4 w) k1_pay5, k1_pay4 w)
  else if n = 14 then (acc a mb mx s.2 k1_pay5, s.2)
  else if n % 14 = 13 then (acc a mb mx s.2 s.1, k1_pay3 (acc a mb mx s.2 s.1))
  else (acc a mb mx s.2 s.1, s.2)

/-- The running sums and column weights after the first `n` points. -/
def state (c : Dev nD) : ℕ → Vec F S24x128 .f32 × Vec F S24x128 .f32
  | 0 => (k1_pay5, k1_pay5)
  | n + 1 => if h : n < cfg1.N then
      point n (iblk V c 0 ⟨n, h⟩) (iblk V c 1 ⟨n, h⟩) (iblk V c 2 ⟨n, h⟩) (iblk V c 3 ⟨n, h⟩) (state c n)
    else state c n

/-- The sums and weights after point `t`, over those before it. -/
theorem state_succ (c : Dev nD) (t : Fin cfg1.N) :
    state V c (t.val + 1) = point t.val (iblk V c 0 t) (iblk V c 1 t) (iblk V c 2 t) (iblk V c 3 t) (state V c t.val) := by
  rw [state, dif_pos t.isLt]

/-- The scoped buffers beside the kernel's own scratch, at anything. -/
abbrev rest (c : Dev nD) : sProp 𝕄 := Pipeline.scopedRestBut spec1 c [cc1_scratch0, cc1_scratch1]

/-- The scoped buffers the kernel does not stage are its scratch and those. -/
theorem split (c : Dev nD) : (Pipeline.scopedRest spec1 c : sProp 𝕄)
    = iprop(((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)) ∗ rest c) :=
  Pipeline.scopedRest_split_of_list spec1 c [cc1_scratch0, cc1_scratch1] (by decide) (by decide)

/-- What is held after `n` points: the scratch, at `state` once a point has run, beside the rest. -/
def held (c : Dev nD) (n : ℕ) : sProp 𝕄 :=
  iprop(∃ (f g : Vec F S24x128 .f32), ⌜n ≠ 0 → f = (state V c n).1 ∧ g = (state V c n).2⌝
    ∗ owns (c : Thread nD τ) (Memref.whole cc1_scratch0) fullShare f ∗ owns (c : Thread nD τ) (Memref.whole cc1_scratch1) fullShare g ∗ rest c)

/-- The proof data: arrays as the kernel finds them, inputs left as fetched, outputs and scratch as `state` says. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay2 (state V c (t.val + 1)).1
  Φ t := held V c t.val
  q _ := fullShare
  owed _ := 0

theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = k1_pay2 (state V c (t.val + 1)).1 := by dsimp only [dat]

/-- An input's buffer holds its block at every point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The first point is the one that takes the weights in, -/
theorem first_iff (t : Fin cfg1.N) : first (grid1.coords t) ↔ t.val = 0 :=
  (by decide +kernel : ∀ t : Fin grid1.N, first (grid1.coords t) ↔ t.val = 0) t

/-- the first of each sweep starts the sums, -/
theorem start_iff (t : Fin cfg1.N) : start (grid1.coords t) ↔ t.val = 0 ∨ t.val = 14 :=
  (by decide +kernel : ∀ t : Fin grid1.N, start (grid1.coords t) ↔ t.val = 0 ∨ t.val = 14) t

/-- and the last of each sweep turns them into weights. -/
theorem last_iff (t : Fin cfg1.N) : last (grid1.coords t) ↔ t.val % 14 = 13 :=
  (by decide +kernel : ∀ t : Fin grid1.N, last (grid1.coords t) ↔ t.val % 14 = 13) t

theorem idle_4 : ∀ t : Fin cfg1.N, ¬last (grid1.coords t) → cfg1.idle 4 (grid1.coords t) = true := by decide +kernel
theorem stays_4 : ∀ t : Fin cfg1.N, ¬last (grid1.coords t) → (cfg1.win 4).flush t = false := by decide +kernel
theorem live_4 : ∀ t : Fin cfg1.N, last (grid1.coords t) → cfg1.idle 4 (grid1.coords t) = false := by decide +kernel

abbrev ms_0 (t : Fin cfg1.N) := win1_0.stage (cfg1.slots t 0)
abbrev ms_1 (t : Fin cfg1.N) := win1_1.stage (cfg1.slots t 1)
abbrev ms_2 (t : Fin cfg1.N) := win1_2.stage (cfg1.slots t 2)
abbrev ms_3 (t : Fin cfg1.N) := win1_3.stage (cfg1.slots t 3)
abbrev ms_4 (t : Fin cfg1.N) := win1_4.stage (cfg1.slots t 4)

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem Φ_eq (c : Dev nD) (t : Fin cfg1.N) : (dat V c).Φ t.castSucc = held V c t.val := by dsimp only [dat]; rfl
theorem Φ_succ (c : Dev nD) (t : Fin cfg1.N) : (dat V c).Φ t.succ = held V c (t.val + 1) := by dsimp only [dat]; rfl

theorem leaves_0 (c : Dev nD) (t : Fin cfg1.N) : (dat V c).leavesExact 0 t = owns (c : Thread nD τ) (ms_0 t) fullShare ((dat V c).after 0 t) := by
  unfold Dat.leavesExact; rw [show cfg1.idle 0 (grid1.coords t) = false from rfl]
theorem leaves_1 (c : Dev nD) (t : Fin cfg1.N) : (dat V c).leavesExact 1 t = owns (c : Thread nD τ) (ms_1 t) fullShare ((dat V c).after 1 t) := by
  unfold Dat.leavesExact; rw [show cfg1.idle 1 (grid1.coords t) = false from rfl]
theorem leaves_2 (c : Dev nD) (t : Fin cfg1.N) : (dat V c).leavesExact 2 t = owns (c : Thread nD τ) (ms_2 t) fullShare ((dat V c).after 2 t) := by
  unfold Dat.leavesExact; rw [show cfg1.idle 2 (grid1.coords t) = false from rfl]
theorem leaves_3 (c : Dev nD) (t : Fin cfg1.N) : (dat V c).leavesExact 3 t = owns (c : Thread nD τ) (ms_3 t) fullShare ((dat V c).after 3 t) := by
  unfold Dat.leavesExact; rw [show cfg1.idle 3 (grid1.coords t) = false from rfl]
theorem leaves_4 (c : Dev nD) (t : Fin cfg1.N) (h : last (grid1.coords t)) :
    (dat V c).leavesExact 4 t = owns (c : Thread nD τ) (ms_4 t) fullShare ((dat V c).after 4 t) := by
  unfold Dat.leavesExact; rw [live_4 t h]

set_option maxHeartbeats 2000000 in
/-- The body at any point takes the one to the other. -/
theorem sound_body (c : Dev nD) (t : Fin cfg1.N) :
    bodyPre V c t ⊢ wp frame (wpE (defs₀ (F := F)) Variants.none c none) Set.univ (bodyAt1 t) (fun _ => bodyPost V c t) := by
  have hN : t.val < 28 := lt_of_lt_of_eq t.isLt (show cfg1.N = 28 from N_1)
  unfold bodyPre bodyPost bodyAt1
  simp only [before_0, before_1, before_2, before_3]
  rw [show (dat V c).owesAt () t.succ = (dat V c).owesAt () t.castSucc from rfl, Φ_eq, Φ_succ, leaves_0, leaves_1, leaves_2, leaves_3,
    after_0, after_1, after_2, after_3]
  unfold held
  rw [state_succ]
  unfold point
  by_cases h0 : t.val = 0
  · have hl : ¬last (grid1.coords t) := fun h => by have := (last_iff t).mp h; omega
    rw [Dat.leavesExact_idle (dat V c) 4 t (idle_4 t hl) (stays_4 t hl), if_pos h0]
    iintro ⟨⟨%f, %g, %hfg, S0, S1, HR⟩, Ho, ⟨%d0, H0⟩, ⟨%d1, H1⟩, ⟨%d2, H2⟩, ⟨%d3, H3⟩, ⟨%d4, H4⟩⟩
    iapply (body_first c (grid1.coords t) _ _ _ _ _ _ _ _ _ _ _ _ _ _ ((first_iff t).mpr h0) ((start_iff t).mpr (.inl h0)) hl (iblk V c 0 t) (iblk V c 1 t) (iblk V c 2 t) (iblk V c 3 t) _ _ Set.univ _)
    isplitl [H0]; · iexact H0
    isplitl [H1]; · iexact H1
    isplitl [H2]; · iexact H2
    isplitl [H3]; · iexact H3
    isplitl [S0]; · iexact S0
    isplitl [S1]; · iexact S1
    iintro ⟨H0, H1, H2, H3, S0, S1⟩
    isplitl [S0 S1 HR]
    · iexists _, _; isplitr; swap
      · isplitl [S0]; · iexact S0
        isplitl [S1]; · iexact S1
        iexact HR
      · ipureintro; exact fun _ => ⟨rfl, rfl⟩
    isplitl [Ho]; · iexact Ho
    isplitl [H0]; · iexact H0
    isplitl [H1]; · iexact H1
    isplitl [H2]; · iexact H2
    isplitl [H3]; · iexact H3
    iexists _; iexact H4
  · have hf : ¬first (grid1.coords t) := fun h => h0 ((first_iff t).mp h)
    rw [if_neg h0]
    by_cases h1 : t.val = 14
    · have hl : ¬last (grid1.coords t) := fun h => by have := (last_iff t).mp h; omega
      rw [Dat.leavesExact_idle (dat V c) 4 t (idle_4 t hl) (stays_4 t hl), if_pos h1]
      iintro ⟨⟨%f, %g, %hfg, S0, S1, HR⟩, Ho, ⟨%d0, H0⟩, ⟨%d1, H1⟩, ⟨%d2, H2⟩, ⟨%d3, H3⟩, ⟨%d4, H4⟩⟩
      obtain ⟨rfl, rfl⟩ := hfg h0
      iapply (body_start c (grid1.coords t) _ _ _ _ _ _ _ _ _ _ _ _ _ _ hf ((start_iff t).mpr (.inr h1)) hl (iblk V c 0 t) (iblk V c 1 t) (iblk V c 2 t) (iblk V c 3 t) (state V c t.val).1 (state V c t.val).2 Set.univ _)
      isplitl [H0]; · iexact H0
      isplitl [H1]; · iexact H1
      isplitl [H2]; · iexact H2
      isplitl [H3]; · iexact H3
      isplitl [S0]; · iexact S0
      isplitl [S1]; · iexact S1
      iintro ⟨H0, H1, H2, H3, S0, S1⟩
      isplitl [S0 S1 HR]
      · iexists _, _; isplitr; swap
        · isplitl [S0]; · iexact S0
          isplitl [S1]; · iexact S1
          iexact HR
        · ipureintro; exact fun _ => ⟨rfl, rfl⟩
      isplitl [Ho]; · iexact Ho
      isplitl [H0]; · iexact H0
      isplitl [H1]; · iexact H1
      isplitl [H2]; · iexact H2
      isplitl [H3]; · iexact H3
      iexists _; iexact H4
    · have hs : ¬start (grid1.coords t) := fun h => by have := (start_iff t).mp h; omega
      rw [if_neg h1]
      by_cases hl : last (grid1.coords t)
      · rw [leaves_4 V c t hl, after_4, state_succ]
        unfold point
        rw [if_neg h0, if_neg h1, if_pos ((last_iff t).mp hl)]
        iintro ⟨⟨%f, %g, %hfg, S0, S1, HR⟩, Ho, ⟨%d0, H0⟩, ⟨%d1, H1⟩, ⟨%d2, H2⟩, ⟨%d3, H3⟩, ⟨%d4, H4⟩⟩
        obtain ⟨rfl, rfl⟩ := hfg h0
        iapply (body_last c (grid1.coords t) _ _ _ _ _ _ _ _ _ _ _ _ _ _ hf hs hl (iblk V c 0 t) (iblk V c 1 t) (iblk V c 2 t) (iblk V c 3 t) (state V c t.val).1 (state V c t.val).2 _ Set.univ _)
        isplitl [H0]; · iexact H0
        isplitl [H1]; · iexact H1
        isplitl [H2]; · iexact H2
        isplitl [H3]; · iexact H3
        isplitl [H4]; · iexact H4
        isplitl [S0]; · iexact S0
        isplitl [S1]; · iexact S1
        iintro ⟨H0, H1, H2, H3, H4, S0, S1⟩
        isplitl [S0 S1 HR]
        · iexists _, _; isplitr; swap
          · isplitl [S0]; · iexact S0
            isplitl [S1]; · iexact S1
            iexact HR
          · ipureintro; exact fun _ => ⟨rfl, rfl⟩
        isplitl [Ho]; · iexact Ho
        isplitl [H0]; · iexact H0
        isplitl [H1]; · iexact H1
        isplitl [H2]; · iexact H2
        isplitl [H3]; · iexact H3
        iexact H4
      · rw [Dat.leavesExact_idle (dat V c) 4 t (idle_4 t hl) (stays_4 t hl), if_neg fun h => hl ((last_iff t).mpr h)]
        iintro ⟨⟨%f, %g, %hfg, S0, S1, HR⟩, Ho, ⟨%d0, H0⟩, ⟨%d1, H1⟩, ⟨%d2, H2⟩, ⟨%d3, H3⟩, ⟨%d4, H4⟩⟩
        obtain ⟨rfl, rfl⟩ := hfg h0
        iapply (body_mid c (grid1.coords t) _ _ _ _ _ _ _ _ _ _ _ _ _ _ hf hs hl (iblk V c 0 t) (iblk V c 1 t) (iblk V c 2 t) (iblk V c 3 t) (state V c t.val).1 (state V c t.val).2 Set.univ _)
        isplitl [H0]; · iexact H0
        isplitl [H1]; · iexact H1
        isplitl [H2]; · iexact H2
        isplitl [H3]; · iexact H3
        isplitl [S0]; · iexact S0
        isplitl [S1]; · iexact S1
        iintro ⟨H0, H1, H2, H3, S0, S1⟩
        isplitl [S0 S1 HR]
        · iexists _, _; isplitr; swap
          · isplitl [S0]; · iexact S0
            isplitl [S1]; · iexact S1
            iexact HR
          · ipureintro; exact fun _ => ⟨rfl, rfl⟩
        isplitl [Ho]; · iexact Ho
        isplitl [H0]; · iexact H0
        isplitl [H1]; · iexact H1
        isplitl [H2]; · iexact H2
        isplitl [H3]; · iexact H3
        iexists _; iexact H4

/-- The row the kernel's table of bodies gives at point `t`. -/
theorem defs₀_row (t : Fin cfg1.N) : defs₀ (F := F) .tc cfg1.body (cfg1.bodyArgs t (cfg1.slots t)) = bodyAt1 t := by
  unfold defs₀; rw [Defs.onTc_tc]

/-- The body does what the proof data say, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- The kernel starts with its scratch at anything, -/
theorem enter (c : Dev nD) : (Pipeline.scopedRest spec1 c : sProp 𝕄) ⊢ (dat V c).Φ 0 := by
  rw [show (dat V c).Φ 0 = held V c 0 from by dsimp only [dat]; rfl, split]
  unfold held
  simp only [owns_whole]
  iintro ⟨⟨⟨%f, H0⟩, ⟨%g, H1⟩⟩, HR⟩
  iexists f, g
  isplitr; · ipureintro; exact fun h => absurd rfl h
  isplitl [H0]; · iexact H0
  isplitl [H1]; · iexact H1
  iexact HR

/-- and leaves it at something. -/
theorem leave (c : Dev nD) : (dat V c).Φ (Fin.last cfg1.N) ⊢ (Pipeline.scopedRest spec1 c : sProp 𝕄) := by
  rw [show (dat V c).Φ (Fin.last cfg1.N) = held V c cfg1.N from by dsimp only [dat]; rfl, split]
  unfold held
  simp only [owns_whole]
  iintro ⟨%f, %g, -, H0, H1, HR⟩
  isplitr [HR]
  · isplitl [H0]; · iexists f; iexact H0
    iexists g; iexact H1
  iexact HR

end Cert.KernelIdeal.Sweep

end
-- ==== Proof.Ideal.LossBody.lean ====
/-
  The loss kernel's body at one grid point, as a triple: from its five input blocks and its running total held at known
  contents, it ends with the total raised by the block's contribution and the inputs as they were.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import proofs.«01_k».proof.Proof.Whole
public import Idealize.ShloMosaic.Lib.Ring
public import Idealize.ShloMosaic.Lib.Tactic
public import Idealize.ShloMosaic.Lib.WordCmp

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running total before the first block. -/
def zero : F .f32 := Scalar.ofBits .f32 0x00000000#32

/-- The running total after a block, over the total `o` before it. -/
def step (a : Vec F S224x48x128 .bf16) (s : Vec F S448x24x128 .f32) (mb : Vec F S1x24x128 .f32) (mx al : Vec F S24x128 .f32)
    (o : F .f32) : F .f32 :=
  k2_pay1 (k2_pay3 mb mx a al) (k2_pay4 s) (k2_pay5 mb mx a al s) o

/-- The body clears the total at this point. -/
abbrev first (i : grid2.Coords) : Prop :=
  (Scalar.cmpi .ne (Scalar.extui (Scalar.cmpi .eq (BitVec.ofNat 32 (i 0).val) 0#32)) 0#32) = 1#1

set_option maxHeartbeats 1000000 in
/-- A point that does not clear the total raises it by its block's contribution. -/
theorem body_later (c : Dev nD) (i : grid2.Coords) (arg1 : Memref sig .tc .vmem S224x48x128 .bf16) (harg1 : arg1.IsWhole)
    (arg2 : Memref sig .tc .vmem S448x24x128 .f32) (harg2 : arg2.IsWhole) (arg3 : Memref sig .tc .vmem S1x24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .smem S1x1 .f32) (harg6 : arg6.IsWhole) (hc : ¬first i)
    (a : Vec F S224x48x128 .bf16) (s : Vec F S448x24x128 .f32) (mb : Vec F S1x24x128 .f32) (mx al : Vec F S24x128 .f32) (o : F .f32)
    (E : Set ℕ) (K : PUnit → sProp 𝕄) :
    iprop(owns (c : Thread nD τ) arg1 fullShare a ∗ owns (c : Thread nD τ) arg2 fullShare s ∗ owns (c : Thread nD τ) arg3 fullShare mb
        ∗ owns (c : Thread nD τ) arg4 fullShare mx ∗ owns (c : Thread nD τ) arg5 fullShare al ∗ owns (c : Thread nD τ) arg6 fullShare (fun _ => o)
        ∗ (iprop(owns (c : Thread nD τ) arg1 fullShare a ∗ owns (c : Thread nD τ) arg2 fullShare s ∗ owns (c : Thread nD τ) arg3 fullShare mb
            ∗ owns (c : Thread nD τ) arg4 fullShare mx ∗ owns (c : Thread nD τ) arg5 fullShare al
            ∗ owns (c : Thread nD τ) arg6 fullShare (fun _ => step a s mb mx al o)) -∗ K ⟨⟩))
      ⊢ wp frame (wpE (defs₀ (F := F)) Variants.none c none) E (cc2__loss_body i arg1 harg1 arg2 harg2 arg3 harg3 arg4 harg4 arg5 harg5 arg6 harg6) K := by
  simp only [cc2__loss_body_eq_skeleton]; unfold cc2__loss_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  sl_unfold_words
  rw [View.read_writes_full]
  repeat rw [Whole.load]
  rfl

set_option maxHeartbeats 1000000 in
/-- A point that clears the total leaves its block's contribution alone, whatever the total held. -/
theorem body_first (c : Dev nD) (i : grid2.Coords) (arg1 : Memref sig .tc .vmem S224x48x128 .bf16) (harg1 : arg1.IsWhole)
    (arg2 : Memref sig .tc .vmem S448x24x128 .f32) (harg2 : arg2.IsWhole) (arg3 : Memref sig .tc .vmem S1x24x128 .f32) (harg3 : arg3.IsWhole)
    (arg4 : Memref sig .tc .vmem S24x128 .f32) (harg4 : arg4.IsWhole) (arg5 : Memref sig .tc .vmem S24x128 .f32) (harg5 : arg5.IsWhole)
    (arg6 : Memref sig .tc .smem S1x1 .f32) (harg6 : arg6.IsWhole) (hc : first i)
    (a : Vec F S224x48x128 .bf16) (s : Vec F S448x24x128 .f32) (mb : Vec F S1x24x128 .f32) (mx al : Vec F S24x128 .f32) (o : Vec F S1x1 .f32)
    (E : Set ℕ) (K : PUnit → sProp 𝕄) :
    iprop(owns (c : Thread nD τ) arg1 fullShare a ∗ owns (c : Thread nD τ) arg2 fullShare s ∗ owns (c : Thread nD τ) arg3 fullShare mb
        ∗ owns (c : Thread nD τ) arg4 fullShare mx ∗ owns (c : Thread nD τ) arg5 fullShare al ∗ owns (c : Thread nD τ) arg6 fullShare o
        ∗ (iprop(owns (c : Thread nD τ) arg1 fullShare a ∗ owns (c : Thread nD τ) arg2 fullShare s ∗ owns (c : Thread nD τ) arg3 fullShare mb
            ∗ owns (c : Thread nD τ) arg4 fullShare mx ∗ owns (c : Thread nD τ) arg5 fullShare al
            ∗ owns (c : Thread nD τ) arg6 fullShare (fun _ => step a s mb mx al zero)) -∗ K ⟨⟩))
      ⊢ wp frame (wpE (defs₀ (F := F)) Variants.none c none) E (cc2__loss_body i arg1 harg1 arg2 harg2 arg3 harg3 arg4 harg4 arg5 harg5 arg6 harg6) K := by
  simp only [cc2__loss_body_eq_skeleton]; unfold cc2__loss_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  sl_unfold_words
  rw [View.read_writes_full]
  repeat rw [Whole.load]
  rfl

end Cert.KernelIdeal.Loss

end
-- ==== Proof.Ideal.LossRegion.lean ====
/-
  The loss kernel over its grid: what the running total holds after each block, and the proof that the body does that at
  every point, from whatever the arrays hold when the kernel starts.
-/
module

public import proofs.«01_k».proof.Proof.Ideal.LossBody
public import Idealize.ShloMosaic.Lib.Pipeline.RegionArraysS

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The block window `w` stages at point `t`, read from the arrays the kernel starts with. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The running total after the first `n` blocks. -/
def total (c : Dev nD) : ℕ → F .f32
  | 0 => zero
  | n + 1 => if h : n < cfg2.N then
      step (iblk V c 0 ⟨n, h⟩) (iblk V c 1 ⟨n, h⟩) (iblk V c 2 ⟨n, h⟩) (iblk V c 3 ⟨n, h⟩) (iblk V c 4 ⟨n, h⟩) (total c n)
    else total c n

/-- The total after point `t`, over the total before it. -/
theorem total_succ (c : Dev nD) (t : Fin cfg2.N) :
    total V c (t.val + 1) = step (iblk V c 0 t) (iblk V c 1 t) (iblk V c 2 t) (iblk V c 3 t) (iblk V c 4 t) (total V c t.val) := by
  rw [total, dif_pos t.isLt]

/-- The proof data: arrays as the kernel finds them, inputs left as fetched, the total's buffer at `total`. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (fun _ => total V c (t.val + 1) : Vec F S1x1 .f32)
  Φ _ := Pipeline.scopedRest spec2 c
  q _ := fullShare
  owed _ := 0

theorem A_eq (c : Dev nD) (w : Fin cfg2.W) : (dat V c).A w = V c (Proc.devRef .tc (Pipeline.arrRef spec2 w)) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = (fun _ => total V c (t.val + 1) : Vec F S1x1 .f32) := by
  dsimp only [dat]

/-- An input's buffer holds its block at every point. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- After the first point the total's buffer holds what the point before left. -/
theorem before_5 (c : Dev nD) (t : Fin cfg2.N) (h0 : t.val ≠ 0) (d) :
    (dat V c).before 5 t d = (fun _ => total V c t.val : Vec F S1x1 .f32) := by
  have hN : t.val < 14 := lt_of_lt_of_eq t.isLt (show cfg2.N = 14 from N_2)
  rw [Dat.before_out_kept _ 5 rfl t (by omega) (Bool.eq_false_iff.mpr fun h => by have := (flush2_5 _).mp h; dsimp only at this; omega)
    (fun _ => rfl) (fun _ _ => rfl)]
  rw [after_5]
  dsimp only
  rw [Nat.sub_add_cancel (by omega)]

/-- The first point is the one that clears the total. -/
theorem first_iff (t : Fin cfg2.N) : first (grid2.coords t) ↔ t.val = 0 := by
  have ht : t.val < 14 := lt_of_lt_of_eq t.isLt (show cfg2.N = 14 from N_2)
  have e0 : (grid2.coords t 0).val = t.val / 1 % 14 := Pipeline.Grid.coords_val t 0 (by decide) rfl
  have : first (grid2.coords t) ↔ t.val % 14 = 0 := by
    simp only [first, e0]
    word_cmp
  rw [this]
  omega

abbrev ms_0 (t : Fin cfg2.N) := win2_0.stage (cfg2.slots t 0)
abbrev ms_1 (t : Fin cfg2.N) := win2_1.stage (cfg2.slots t 1)
abbrev ms_2 (t : Fin cfg2.N) := win2_2.stage (cfg2.slots t 2)
abbrev ms_3 (t : Fin cfg2.N) := win2_3.stage (cfg2.slots t 3)
abbrev ms_4 (t : Fin cfg2.N) := win2_4.stage (cfg2.slots t 4)
abbrev ms_5 (t : Fin cfg2.N) := win2_5.stage (cfg2.slots t 5)

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t)
    ∗ owns (c : Thread nD τ) (ms_4 t) fullShare ((dat V c).after 4 t)
    ∗ owns (c : Thread nD τ) (ms_5 t) fullShare ((dat V c).after 5 t))

set_option maxHeartbeats 1000000 in
/-- The body at any point takes the one to the other. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, total_succ]
  by_cases h0 : t.val = 0
  · rw [h0, total]
    iintro ⟨HΦ, Ho, ⟨%d0, H0⟩, ⟨%d1, H1⟩, ⟨%d2, H2⟩, ⟨%d3, H3⟩, ⟨%d4, H4⟩, ⟨%d5, H5⟩⟩
    iapply (body_first c (grid2.coords t) _ _ _ _ _ _ _ _ _ _ _ _ ((first_iff t).mpr h0) (iblk V c 0 t) (iblk V c 1 t) (iblk V c 2 t)
      (iblk V c 3 t) (iblk V c 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_5 V c t h0]
    iintro ⟨HΦ, Ho, ⟨%d0, H0⟩, ⟨%d1, H1⟩, ⟨%d2, H2⟩, ⟨%d3, H3⟩, ⟨%d4, H4⟩, ⟨%d5, H5⟩⟩
    iapply (body_later c (grid2.coords t) _ _ _ _ _ _ _ _ _ _ _ _ (fun h => h0 ((first_iff t).mp h)) (iblk V c 0 t) (iblk V c 1 t)
      (iblk V c 2 t) (iblk V c 3 t) (iblk V c 4 t) (total V c t.val) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The row the kernel's table of bodies gives at point `t`. -/
theorem defs₀_row (t : Fin cfg2.N) : defs₀ (F := F) .tc cfg2.body (cfg2.bodyArgs t (cfg2.slots t)) = bodyAt2 t := by
  unfold defs₀; rw [Defs.onTc_tc]

/-- The body does what the proof data say, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

/-- The kernel has no scratch: what it starts with it leaves. -/
theorem enter (c : Dev nD) : (Pipeline.scopedRest spec2 c : sProp 𝕄) ⊢ (dat V c).Φ 0 := by dsimp only [dat]; exact .rfl

theorem leave (c : Dev nD) : (dat V c).Φ (Fin.last cfg2.N) ⊢ (Pipeline.scopedRest spec2 c : sProp 𝕄) := by dsimp only [dat]; exact .rfl

end Cert.KernelIdeal.Loss

end
-- ==== Proof.Ideal.Segments.lean ====
/-
  What the arrays hold between the program's kernels, and the three kernels as segments of its run.
-/
module

public import proofs.«01_k».proof.Proof.Ideal.Pass1Region
public import proofs.«01_k».proof.Proof.Ideal.SweepRegion
public import proofs.«01_k».proof.Proof.Ideal.LossRegion
public import proofs.«01_k».proof.Proof.Gen.KernelIdeal.Regions

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the arrays hold between the kernels -/

/-- The arrays when the first kernel starts, -/
abbrev X3 (c : Dev nD) : Valuation τ sig (Elt F) := V3 m c
/-- after the first kernel, -/
def X4 (c : Dev nD) : Valuation τ sig (Elt F) := Pipeline.afterRegion (Pass1.dat (X3 m) c) (X3 m c)
/-- after the second, -/
def X5 (c : Dev nD) : Valuation τ sig (Elt F) := Pipeline.afterRegion (Sweep.dat (X4 m) c) (X4 m c)
/-- after the third, -/
def X6 (c : Dev nD) : Valuation τ sig (Elt F) := Pipeline.afterRegion (Loss.dat (X5 m) c) (X5 m c)
/-- and at the end. -/
def X7 (c : Dev nD) : Valuation τ sig (Elt F) := StableHlo.after hostOps3 (X6 m c)

/-- No kernel changes a buffer that is none of its output arrays. -/
theorem X4_keeps (c : Dev nD) (r : Ref sig .tc) (h : ∀ w, Pipeline.arrRef spec0 w = r → (cfg0.win w).isOut = false) : X4 m c r = X3 m c r :=
  Pipeline.afterRegion_keeps (Pass1.dat (X3 m) c) (X3 m c) winFacts0.arr_inj (fun w => Pass1.A_eq (X3 m) c w) r h
theorem X5_keeps (c : Dev nD) (r : Ref sig .tc) (h : ∀ w, Pipeline.arrRef spec1 w = r → (cfg1.win w).isOut = false) : X5 m c r = X4 m c r :=
  Pipeline.afterRegion_keeps (Sweep.dat (X4 m) c) (X4 m c) winFacts1.arr_inj (fun w => Sweep.A_eq (X4 m) c w) r h
theorem X6_keeps (c : Dev nD) (r : Ref sig .tc) (h : ∀ w, Pipeline.arrRef spec2 w = r → (cfg2.win w).isOut = false) : X6 m c r = X5 m c r :=
  Pipeline.afterRegion_keeps (Loss.dat (X5 m) c) (X5 m c) winFacts2.arr_inj (fun w => Loss.A_eq (X5 m) c w) r h
theorem X7_of (c : Dev nD) (r : Ref sig .tc) (h : r ∉ hostOps3_W) : X7 m c r = X6 m c r :=
  StableHlo.after_of_writes_sub hostOps3 _ hostOps3_writes h

/-- An argument reaches the end as launched. -/
theorem X7_arg (c : Dev nD) (r : Ref sig .tc) (h7 : r ∉ hostOps3_W)
    (h6 : ∀ w, Pipeline.arrRef spec2 w = r → (cfg2.win w).isOut = false) (h5 : ∀ w, Pipeline.arrRef spec1 w = r → (cfg1.win w).isOut = false)
    (h4 : ∀ w, Pipeline.arrRef spec0 w = r → (cfg0.win w).isOut = false) (h3 : r ∉ hostOps0_2_W) (h2 : r ∉ hostOps0_1_W) (h1 : r ∉ hostOps0_W) :
    X7 m c r = m ((c : Thread nD τ).loc r) :=
  (X7_of m c r h7).trans <| (X6_keeps m c r h6).trans <| (X5_keeps m c r h5).trans <| (X4_keeps m c r h4).trans <|
    (V3_of m c r h3).trans <| (V2_of m c r h2).trans <| (V1_of m c r h1).trans rfl

/-! ## The kernels as segments of the run -/

/-- The proof data of the three kernels. -/
def pdats : (p : Fin 3) → (c : Dev nD) → Dat τ (Elt F) Unit ℕ (UR sig nD τ) ℕ (cfgs p) c
  | ⟨0, _⟩ => fun c => Pass1.dat (X3 m) c
  | ⟨1, _⟩ => fun c => Sweep.dat (X4 m) c
  | ⟨2, _⟩ => fun c => Loss.dat (X5 m) c

/-- Every wait is at level 0, on the TensorCores' semaphores. -/
abbrev L : GSem nD τ sig → Finset Unit := fun g => if g.1.2 = .tc then {()} else ∅
abbrev lv : GSem nD τ sig → Unit → ℕ := fun _ _ => 0

/-- What rides along beside the buffers: the core owing nothing. -/
abbrev E (_ : Fin 4) (c : Dev nD) : sProp 𝕄 :=
  iprop((∃ W, owes (c : Thread nD τ) (0 : CellTallies nD τ sig Unit) W) ∗ BI.emp ∗ BI.emp)

theorem cut (p : Fin 3) : Pipeline.LevelCut (pcfgs (F := F)) adm () L lv p (fun _ => 0) (fun _ => 0) where
  hι _ _ _ := by simp [L]
  hιb _ _ _ := le_rfl
  hD _ _ _ h := absurd h (by simp)

set_option backward.isDefEq.respectTransparency.types false in
/-- Kernel 1 as a segment, from the buffers at `X3` to the buffers at `X4`. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => BI.emp) (fun _ => BI.emp) launch0.toP rfl
    (fun c => (Pass1.body_obligation (X3 m) c).loose) (fun _ _ => rfl) (fun _ => rfl)
    (fun c w => (Pass1.dat (X3 m) c).share_full (fun _ => rfl) w)
    (fun c => by
      show iprop(Pipeline.scopedRest spec0 c ∗ (BI.emp : sProp 𝕄)) ⊢ (Pass1.dat (X3 m) c).Φ 0
      iintro ⟨H, -⟩
      iapply (Pass1.enter (X3 m) c)
      iexact H)
    (fun c => by
      show (Pass1.dat (X3 m) c).Φ (Fin.last cfg0.N) ⊢ iprop(Pipeline.scopedRest spec0 c ∗ (BI.emp : sProp 𝕄))
      iintro H
      isplitl [H]
      · iapply (Pass1.leave (X3 m) c)
        iexact H
      · iempintro)
    (fun _ => 0) (cut 0) (fun _ => BI.emp) (X3 m) (fun c w => Pass1.A_eq (X3 m) c w)

set_option backward.isDefEq.respectTransparency.types false in
/-- Kernel 2 as a segment, from the buffers at `X4` to the buffers at `X5`. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => BI.emp) (fun _ => BI.emp) launch1.toP rfl
    (fun c => (Sweep.body_obligation (X4 m) c).loose) (fun _ _ => rfl) (fun _ => rfl)
    (fun c w => (Sweep.dat (X4 m) c).share_full (fun _ => rfl) w)
    (fun c => by
      show iprop(Pipeline.scopedRest spec1 c ∗ (BI.emp : sProp 𝕄)) ⊢ (Sweep.dat (X4 m) c).Φ 0
      iintro ⟨H, -⟩
      iapply (Sweep.enter (X4 m) c)
      iexact H)
    (fun c => by
      show (Sweep.dat (X4 m) c).Φ (Fin.last cfg1.N) ⊢ iprop(Pipeline.scopedRest spec1 c ∗ (BI.emp : sProp 𝕄))
      iintro H
      isplitl [H]
      · iapply (Sweep.leave (X4 m) c)
        iexact H
      · iempintro)
    (fun _ => 0) (cut 1) (fun _ => BI.emp) (X4 m) (fun c w => Sweep.A_eq (X4 m) c w)

set_option backward.isDefEq.respectTransparency.types false in
/-- Kernel 3 as a segment, from the buffers at `X5` to the buffers at `X6`. -/
def R2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun _ => BI.emp) (fun _ => BI.emp) launch2.toP rfl
    (fun c => (Loss.body_obligation (X5 m) c).loose) (fun _ _ => rfl) (fun _ => rfl)
    (fun c w => (Loss.dat (X5 m) c).share_full (fun _ => rfl) w)
    (fun c => by
      show iprop(Pipeline.scopedRest spec2 c ∗ (BI.emp : sProp 𝕄)) ⊢ (Loss.dat (X5 m) c).Φ 0
      iintro ⟨H, -⟩
      iapply (Loss.enter (X5 m) c)
      iexact H)
    (fun c => by
      show (Loss.dat (X5 m) c).Φ (Fin.last cfg2.N) ⊢ iprop(Pipeline.scopedRest spec2 c ∗ (BI.emp : sProp 𝕄))
      iintro H
      isplitl [H]
      · iapply (Loss.leave (X5 m) c)
        iexact H
      · iempintro)
    (fun _ => 0) (cut 2) (fun _ => BI.emp) (X5 m) (fun c w => Loss.A_eq (X5 m) c w)

end Cert.KernelIdeal.Whole

end
-- ==== Proof.Ideal.Run.lean ====
/-
  The whole program run: its host operations and its three kernels in order. Every run ends, with the arguments as they
  were, every semaphore counter at zero, and the result at what the three kernels leave, one after the other.
-/
module

public import proofs.«01_k».proof.Proof.Ideal.Segments

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- Every array a kernel works on is a buffer that lives outside the kernels. -/
theorem arrs_sub0 : Pipeline.arrRefs (τ := τ) spec0 ⊆ Pipeline.ucRefs τ sig := Pipeline.arrRefs_sub_ucRefs spec0 (by decide)
theorem arrs_sub1 : Pipeline.arrRefs (τ := τ) spec1 ⊆ Pipeline.ucRefs τ sig := Pipeline.arrRefs_sub_ucRefs spec1 (by decide)
theorem arrs_sub2 : Pipeline.arrRefs (τ := τ) spec2 ⊆ Pipeline.ucRefs τ sig := Pipeline.arrRefs_sub_ucRefs spec2 (by decide)

set_option backward.isDefEq.respectTransparency.types false in
theorem pre0 (c : Dev nD) : iprop(StableHlo.held (c : Thread nD τ) (Pipeline.ucRefs τ sig) (X3 m c) ∗ E 0 c) ⊢ (R0 m).pre c :=
  RegionSeg.ofHeldIn_pre (pcs := pcfgs (F := F)) (a := adm) (pdats := pdats m) (p := 0) (D := fun _ => 0) (X := fun _ => BI.emp) (R := fun _ => BI.emp) (W := X3 m) arrs_sub0 c
set_option backward.isDefEq.respectTransparency.types false in
theorem post0 (c : Dev nD) : (R0 m).post c ⊢ iprop(StableHlo.held (c : Thread nD τ) (Pipeline.ucRefs τ sig) (X4 m c) ∗ E 1 c) :=
  RegionSeg.ofHeldIn_post (pcs := pcfgs (F := F)) (a := adm) (pdats := pdats m) (p := 0) (D := fun _ => 0) (Y := fun _ => BI.emp) (R := fun _ => BI.emp) (W := X3 m) arrs_sub0 c

set_option backward.isDefEq.respectTransparency.types false in
theorem pre1 (c : Dev nD) : iprop(StableHlo.held (c : Thread nD τ) (Pipeline.ucRefs τ sig) (X4 m c) ∗ E 1 c) ⊢ (R1 m).pre c :=
  RegionSeg.ofHeldIn_pre (pcs := pcfgs (F := F)) (a := adm) (pdats := pdats m) (p := 1) (D := fun _ => 0) (X := fun _ => BI.emp) (R := fun _ => BI.emp) (W := X4 m) arrs_sub1 c
set_option backward.isDefEq.respectTransparency.types false in
theorem post1 (c : Dev nD) : (R1 m).post c ⊢ iprop(StableHlo.held (c : Thread nD τ) (Pipeline.ucRefs τ sig) (X5 m c) ∗ E 2 c) :=
  RegionSeg.ofHeldIn_post (pcs := pcfgs (F := F)) (a := adm) (pdats := pdats m) (p := 1) (D := fun _ => 0) (Y := fun _ => BI.emp) (R := fun _ => BI.emp) (W := X4 m) arrs_sub1 c

set_option backward.isDefEq.respectTransparency.types false in
theorem pre2 (c : Dev nD) : iprop(StableHlo.held (c : Thread nD τ) (Pipeline.ucRefs τ sig) (X5 m c) ∗ E 2 c) ⊢ (R2 m).pre c :=
  RegionSeg.ofHeldIn_pre (pcs := pcfgs (F := F)) (a := adm) (pdats := pdats m) (p := 2) (D := fun _ => 0) (X := fun _ => BI.emp) (R := fun _ => BI.emp) (W := X5 m) arrs_sub2 c
set_option backward.isDefEq.respectTransparency.types false in
theorem post2 (c : Dev nD) : (R2 m).post c ⊢ iprop(StableHlo.held (c : Thread nD τ) (Pipeline.ucRefs τ sig) (X6 m c) ∗ E 3 c) :=
  RegionSeg.ofHeldIn_post (pcs := pcfgs (F := F)) (a := adm) (pdats := pdats m) (p := 2) (D := fun _ => 0) (Y := fun _ => BI.emp) (R := fun _ => BI.emp) (W := X5 m) arrs_sub2 c

/-- The last host operations as a segment. -/
def hostEnd : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (X6 m) (E 3)

/-- The whole program as segments. -/
abbrev parts (_ : Dev nD) : List (Seg (pcfgs (F := F)) adm (pdats m) () defs₀ Variants.none L lv) :=
  [.host (seg0 m Variants.none L lv E), .host (seg1 m Variants.none L lv E), .host (seg2 m Variants.none L lv E),
    .region (R0 m), .region (R1 m), .region (R2 m), .host (hostEnd m)]

/-! ## The launch -/

/-- Where the pipelines' own resources live. -/
def EP : Emb (UR sig nD τ) 𝕄 :=
  (Emb.refl _).trans (uEmb (nD := nD) (sig := sig) (Ix := Unit) (Val := Elt F) (Name := ℕ) (U := UR sig nD τ) (Lvl := ℕ)).toEmb

instance EP_landsIn : (EP (F := F)).LandsIn (upEmb : UEmb _ 𝕄) := by unfold EP; infer_instance

/-- Those resources at launch. -/
def u₀ : UR sig nD τ := initOf (Pipeline.cells cfgs cellOf_inj) (Pipeline.launchToks cfgs cellOf_inj)

/-- One core's share of the launch is its buffers at the launch contents, owing nothing. -/
theorem launched_core (ρ : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
      ⊢ iprop(StableHlo.held (c : Thread nD τ) (Pipeline.ucRefs τ sig) (V0 m c) ∗ E 0 c) := by
  have h : (unscopedBufs c (fun b => m ((c.tc : Thread nD τ).loc b)) : sProp 𝕄)
      ⊢ StableHlo.held (c : Thread nD τ) (Pipeline.ucRefs τ sig) (V0 m c) := by
    rw [← Pipeline.unscopedBufs_held (Ix := Unit) (Name := ℕ) (U := UR sig nD τ) (Lvl := ℕ) c (V0 m c)]
  iintro ⟨Hb, -, Ho, -⟩
  isplitl [Hb]
  · iapply h
    iexact Hb
  isplitl [Ho]
  · iexists _; iexact Ho
  isplitr <;> iempintro

/-- The launch gives every core its buffers at the launch contents, owing nothing. -/
theorem launched (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)) ∗ levAts L lv)
      ⊢ (|={Set.univ}=> bigSep Finset.univ fun c : Dev nD => iprop(StableHlo.held (c : Thread nD τ) (Pipeline.ucRefs τ sig) (V0 m c) ∗ E 0 c) : sProp 𝕄) := by
  have h := bigSep_mono (s := (Finset.univ : Finset (Dev nD))) fun c _ => launched_core m ρ c
  iintro ⟨H, -⟩
  imodintro
  iapply (show (_ : sProp 𝕄) ⊢ _ from h)
  iexact H

set_option backward.isDefEq.respectTransparency.types false in
/-- Every run ends, with the arguments as launched, the result at `X7`, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v11) = X7 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj EP defs₀ Variants.none L lv m ρ main
    (parts m)
    (fun c Q => by
      rewrite [main_chain c, Seg.run_eq_chain,
        show (parts m c).map Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [parts, Seg.pipes_host, Seg.pipes_region, Seg.pipes_nil]; decide) (fun _ => 0)
    (fun g hg => if_neg hg) (fun _ => BI.emp) u₀
    (by
      iintro Hu; imodintro
      isplitl [Hu]
      · iapply (show (ownU u₀ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (X7 m c))
    (hch := fun c => ⟨.rfl, .rfl, .rfl, pre0 m c, (post0 m c).trans (pre1 m c), (post1 m c).trans (pre2 m c), post2 m c, sep_mono .rfl
      (by iintro ⟨H, -⟩; iexact H)⟩)
    (hinit := launched m ρ) (QY := fun c s => s.mem ((c.tc : Thread nD τ).loc main_v11) = X7 m c main_v11
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (X7 m c) s') $$ [Hh HSI]
  · isplitl [Hh] <;> iassumption
  icases Hr with ⟨%h, HSI⟩
  imodintro
  isplitr
  · ipureintro
    have at_ : ∀ r : Ref sig .tc, ¬ (Proc.devRef (τ := τ) .tc r).isScoped → s'.mem.mem ((c.tc : Thread nD τ).loc r) = X7 m c r :=
      fun r hr => h (Proc.devRef .tc r) (Finset.mem_filter.mpr ⟨StableHlo.devRef_mem_tcRefs r, hr⟩)
    exact ⟨at_ main_v11 (by decide),
      (at_ main_arg0 (by decide)).trans (X7_arg m c main_arg0 (by decide) (by decide) (by decide) (by decide) (by decide) (by decide) (by decide)),
      (at_ main_arg1 (by decide)).trans (X7_arg m c main_arg1 (by decide) (by decide) (by decide) (by decide) (by decide) (by decide) (by decide)),
      (at_ main_arg2 (by decide)).trans (X7_arg m c main_arg2 (by decide) (by decide) (by decide) (by decide) (by decide) (by decide) (by decide))⟩
  · iexact HSI

end Cert.KernelIdeal.Whole

end
-- ==== Proof.Frames.lean ====
/-
  The frames: each of the three programs runs to an end, leaves its arguments as they were and every semaphore counter at
  zero.
-/
module

public import proofs.«01_k».proof.Defs
public import proofs.«01_k».proof.Proof.Bits.Run
public import proofs.«01_k».proof.Proof.Ideal.Run
public import proofs.«01_k».proof.Proof.Gen.ReferenceIdeal.Run
public import Idealize.ShloMosaic.Lib.Quiescent

@[expose] public section

noncomputable section

namespace Cert.Proof

open Idealize.ShloMosaic Idealize.SL.Sem

/-- The kernel, on words. -/
theorem frame_kernel : Cert.quiescent_Kernel (hKernel := Cert.Kernel.Gen.facts) := fun m ρ _ =>
  (θ_run _ _ _).mono (fun _ h => ⟨fun c => (h.1 c).2, h.2⟩) (Cert.Kernel.Whole.run m ρ)

/-- The kernel over the extended reals. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Whole.run m ρ)

/-- The reference over the extended reals; it has no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The named constants of the ideal kernel: on words each is the literal the kernel has, and over the extended reals the
    number its name stands for. -/
theorem preserves : Cert.preserves_Kernel_KernelIdeal :=
  ⟨IdealRules.named_const.statement Cert.KernelIdeal.κ "inv_k" .f32 0x39AEC33E#32 ((1 / 3000 : ℝ) : EReal) rfl,
    IdealRules.named_const.statement Cert.KernelIdeal.κ "inv_n" .f32 0x39272F05#32 ((1 / 6272 : ℝ) : EReal) rfl,
    IdealRules.named_const.statement Cert.KernelIdeal.κ "pad" .f32 0xF149F2CA#32 ⊥ rfl⟩

end Cert.Proof

end
-- ==== Proof.Sinkhorn.lean ====
/-
  The sinkhorn normalisation over real numbers, in the two ways the two programs run it: on the whole matrix, row and
  column sums in turn, and through the column weights alone, which is what the kernel keeps between its passes.
-/
module

public import Mathlib.Analysis.SpecialFunctions.Log.Basic
public import Mathlib.Tactic.FieldSimp
public import Mathlib.Algebra.BigOperators.Field

@[expose] public section

noncomputable section

namespace Cert.Sinkhorn

open Finset

variable (N K : ℕ) (e : ℕ → ℕ → ℝ)

/-- The column weights that bring every prototype's share to `1/K`, given the weights `w` of the rows. -/
def cols (w : ℕ → ℝ) (c : ℕ) : ℝ := (1 / K) / ∑ n ∈ range N, e n c * w n

/-- One row's mass under the column weights `al`. -/
def mass (al : ℕ → ℝ) (n : ℕ) : ℝ := ∑ c ∈ range K, e n c * al c

/-- The row weights that bring every row's share to `1/N`, given the column weights. -/
def rows (al : ℕ → ℝ) (n : ℕ) : ℝ := (1 / N) / mass K e al n

/-- The column weights after `t` further rounds. -/
def weight : ℕ → ℕ → ℝ
  | 0 => cols N K e fun _ => 1
  | t + 1 => cols N K e (rows N K e (weight t))

/-- The cross entropy of the logits `y` against the assignment the column weights give, summed over the rows. -/
def loss (y : ℕ → ℕ → ℝ) (al : ℕ → ℝ) : ℝ :=
  ∑ n ∈ range N, ((∑ c ∈ range K, e n c * al c * y n c) / mass K e al n - Real.log (∑ c ∈ range K, Real.exp (y n c)))

/-- One round on the whole matrix: the rows brought to `1/K`, then the columns to `1/N`. -/
def byRow (Q : ℕ → ℕ → ℝ) (c n : ℕ) : ℝ := Q c n * ((1 / K) / ∑ j ∈ range N, Q c j)

/-- The second half of a round on the whole matrix. -/
def byCol (Q : ℕ → ℕ → ℝ) (c n : ℕ) : ℝ := Q c n * ((1 / N) / ∑ j ∈ range K, Q j n)

variable {N K e}

theorem sum_pos_range {M : ℕ} (hM : 0 < M) {f : ℕ → ℝ} (hf : ∀ n, 0 < f n) : 0 < ∑ n ∈ range M, f n :=
  Finset.sum_pos (fun n _ => hf n) ⟨0, Finset.mem_range.mpr hM⟩

theorem sum_pos_on {M : ℕ} (hM : 0 < M) {f : ℕ → ℝ} (hf : ∀ n, n < M → 0 < f n) : 0 < ∑ n ∈ range M, f n :=
  Finset.sum_pos (fun n h => hf n (Finset.mem_range.mp h)) ⟨0, Finset.mem_range.mpr hM⟩

theorem byRow_pos (hN : 0 < N) (hK : 0 < K) {Q : ℕ → ℕ → ℝ} (hQ : ∀ c, c < K → ∀ n, n < N → 0 < Q c n) (c : ℕ) (hc : c < K)
    (n : ℕ) (hn : n < N) : 0 < byRow N K Q c n :=
  mul_pos (hQ c hc n hn) (div_pos (by positivity) (sum_pos_on hN (hQ c hc)))

theorem byCol_pos (hN : 0 < N) (hK : 0 < K) {Q : ℕ → ℕ → ℝ} (hQ : ∀ c, c < K → ∀ n, n < N → 0 < Q c n) (c : ℕ) (hc : c < K)
    (n : ℕ) (hn : n < N) : 0 < byCol N K Q c n :=
  mul_pos (hQ c hc n hn) (div_pos (by positivity) (sum_pos_on hK fun c hc => hQ c hc n hn))

variable (hN : 0 < N) (hK : 0 < K) (he : ∀ n c, 0 < e n c)

include hN hK he

theorem cols_pos {w : ℕ → ℝ} (hw : ∀ n, 0 < w n) (c : ℕ) : 0 < cols N K e w c :=
  div_pos (by positivity) (sum_pos_range hN fun n => mul_pos (he n c) (hw n))

omit hN in
theorem mass_pos {al : ℕ → ℝ} (hal : ∀ c, 0 < al c) (n : ℕ) : 0 < mass K e al n :=
  sum_pos_range hK fun c => mul_pos (he n c) (hal c)

theorem rows_pos {al : ℕ → ℝ} (hal : ∀ c, 0 < al c) (n : ℕ) : 0 < rows N K e al n :=
  div_pos (by positivity) (mass_pos hK he hal n)

theorem weight_pos (t c : ℕ) : 0 < weight N K e t c := by
  induction t generalizing c with
  | zero => exact cols_pos hN hK he (fun _ => one_pos) c
  | succ t ih => exact cols_pos hN hK he (rows_pos hN hK he ih) c

omit hK in
/-- A matrix that is the kernel matrix scaled by columns and rows keeps that form through the first half of a round, and
its column weights are then those the row weights call for. -/
theorem byRow_of {g w : ℕ → ℝ} (hg : ∀ c, 0 < g c) (hw : ∀ n, 0 < w n) {Q : ℕ → ℕ → ℝ}
    (hQ : ∀ c, c < K → ∀ n, n < N → Q c n = e n c * g c * w n) (c : ℕ) (hc : c < K) (n : ℕ) (hn : n < N) :
    byRow N K Q c n = e n c * cols N K e w c * w n := by
  have hs : ∑ j ∈ range N, Q c j = g c * ∑ j ∈ range N, e j c * w j := by
    rw [Finset.mul_sum]
    exact Finset.sum_congr rfl fun j hj => by rw [hQ c hc j (Finset.mem_range.mp hj)]; ring
  have hp : 0 < ∑ j ∈ range N, e j c * w j := sum_pos_range hN fun j => mul_pos (he j c) (hw j)
  have hgc := hg c
  unfold byRow cols
  rw [hs, hQ c hc n hn]
  field_simp

omit hN in
/-- The second half of a round: the row weights become those the column weights call for. -/
theorem byCol_of {al w : ℕ → ℝ} (hal : ∀ c, 0 < al c) (hw : ∀ n, 0 < w n) {Q : ℕ → ℕ → ℝ}
    (hQ : ∀ c, c < K → ∀ n, n < N → Q c n = e n c * al c * w n) (c : ℕ) (hc : c < K) (n : ℕ) (hn : n < N) :
    byCol N K Q c n = e n c * al c * rows N K e al n := by
  have hs : ∑ j ∈ range K, Q j n = w n * mass K e al n := by
    unfold mass
    rw [Finset.mul_sum]
    exact Finset.sum_congr rfl fun j hj => by rw [hQ j (Finset.mem_range.mp hj) n hn]; ring
  have hp := mass_pos hK he hal n
  have hwn := hw n
  unfold byCol rows
  rw [hs, hQ c hc n hn]
  field_simp

/-- A column scaled to sum to one over the prototypes is the assignment the column weights give. -/
theorem share_of {al : ℕ → ℝ} (hal : ∀ c, 0 < al c) {Q : ℕ → ℕ → ℝ}
    (hQ : ∀ c, c < K → ∀ n, n < N → Q c n = e n c * al c * rows N K e al n) (c : ℕ) (hc : c < K) (n : ℕ) (hn : n < N) :
    Q c n / (∑ j ∈ range K, Q j n) = e n c * al c / mass K e al n := by
  have hs : ∑ j ∈ range K, Q j n = rows N K e al n * mass K e al n := by
    unfold mass
    rw [Finset.mul_sum]
    exact Finset.sum_congr rfl fun j hj => by rw [hQ j (Finset.mem_range.mp hj) n hn]; ring
  have hp := mass_pos hK he hal n
  have hr := rows_pos hN hK he hal n
  rw [hs, hQ c hc n hn]
  field_simp

omit hN hK he in
/-- The logarithm of a sum of exponentials does not depend on the number taken off the exponents first. -/
theorem log_shift (hK : 0 < K) (y : ℕ → ℝ) (s : ℝ) :
    s + Real.log (∑ c ∈ range K, Real.exp (y c - s)) = Real.log (∑ c ∈ range K, Real.exp (y c)) := by
  have h : ∑ c ∈ range K, Real.exp (y c) = Real.exp s * ∑ c ∈ range K, Real.exp (y c - s) := by
    rw [Finset.mul_sum]
    exact Finset.sum_congr rfl fun c _ => by rw [← Real.exp_add]; congr 1; ring
  rw [h, Real.log_mul (Real.exp_pos s).ne' (sum_pos_range hK fun c => Real.exp_pos _).ne', Real.log_exp]

/-- The matrix after the three rounds, from a matrix of the kernel's form. -/
theorem rounds_of {g : ℕ → ℝ} (hg : ∀ c, 0 < g c) {Q : ℕ → ℕ → ℝ} (hQ : ∀ c, c < K → ∀ n, n < N → Q c n = e n c * g c) (t : ℕ) :
    ∀ c, c < K → ∀ n, n < N →
      (fun Q => byCol N K (byRow N K Q))^[t + 1] Q c n = e n c * weight N K e t c * rows N K e (weight N K e t) n := by
  induction t with
  | zero =>
    intro c hc n hn
    refine byCol_of hK he (weight_pos hN hK he 0) (w := fun _ => 1) (fun _ => one_pos) (fun c hc n hn => ?_) c hc n hn
    exact byRow_of hN he hg (fun _ => one_pos) (fun c hc n hn => by rw [hQ c hc n hn, mul_one]) c hc n hn
  | succ t ih =>
    intro c hc n hn
    rw [Function.iterate_succ_apply']
    have hr := rows_pos hN hK he (weight_pos hN hK he t)
    refine byCol_of hK he (weight_pos hN hK he (t + 1)) hr (fun c hc n hn => ?_) c hc n hn
    exact byRow_of hN he (weight_pos hN hK he t) hr ih c hc n hn

/-- The rows' cross entropy, written with the matrix's shares and the logarithm of the softmax, is the loss. -/
theorem loss_of (y : ℕ → ℕ → ℝ) {al : ℕ → ℝ} (hal : ∀ c, 0 < al c) (s : ℕ → ℝ) :
    ∑ n ∈ range N, ∑ c ∈ range K, e n c * al c / mass K e al n
        * (y n c - s n - Real.log (∑ j ∈ range K, Real.exp (y n j - s n)))
      = loss N K e y al := by
  unfold loss
  refine Finset.sum_congr rfl fun n _ => ?_
  have hp := mass_pos hK he hal n
  have hone : ∑ c ∈ range K, e n c * al c / mass K e al n = 1 := by
    rw [← Finset.sum_div]; exact div_self hp.ne'
  rw [← log_shift hK (y n) (s n)]
  have h (c : ℕ) : e n c * al c / mass K e al n * (y n c - s n - Real.log (∑ j ∈ range K, Real.exp (y n j - s n)))
      = e n c * al c * y n c / mass K e al n
        - e n c * al c / mass K e al n * (s n + Real.log (∑ j ∈ range K, Real.exp (y n j - s n))) := by ring
  simp only [h]
  rw [Finset.sum_sub_distrib, ← Finset.sum_mul, hone, one_mul, ← Finset.sum_div]

end Cert.Sinkhorn
-- ==== Proof.Reals.lean ====
/-
  Extended-real arithmetic on real numbers: the sums, quotients, logarithms and maxima of the two programs stay real.
-/
module

public import Idealize.ShloMosaic.PureOps.Ideal.Laws

@[expose] public section

noncomputable section

namespace Cert.Reals

open Idealize.ShloMosaic

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of reals over the first `n` numbers, as the programs index it. -/
theorem sum_fin (n : ℕ) (f : ℕ → ℝ) : ∑ i : Fin n, (f i.val : EReal) = ((∑ i ∈ Finset.range n, f i : ℝ) : EReal) := by
  rw [sum_coe Finset.univ fun i : Fin n => f i.val, Finset.sum_range]

theorem sum_fin' (n : ℕ) {g : Fin n → EReal} (f : ℕ → ℝ) (h : ∀ i : Fin n, g i = (f i.val : EReal)) :
    ∑ i, g i = ((∑ i ∈ Finset.range n, f i : ℝ) : EReal) := by
  rw [← sum_fin]; exact Finset.sum_congr rfl fun i _ => h i

theorem div_real (a : ℝ) {b : ℝ} (h : b ≠ 0) : Ideal.div (a : EReal) (b : EReal) = ((a / b : ℝ) : EReal) := by
  rw [Ideal.div_coe h, ← EReal.coe_mul, mul_one_div]

theorem log_real {a : ℝ} (h : 0 < a) : Ideal.log (a : EReal) = (Real.log a : EReal) := by
  rw [Ideal.log_coe, if_neg (not_le.mpr h)]

/-- The maximum of finitely many values, none `⊤` and one of them not `⊥`, over a start that is not `⊤`, is real. -/
theorem fold_max_real {ι : Type*} (s : Finset ι) (b : EReal) (f : ι → EReal) (hb : b ≠ ⊤) (hf : ∀ i ∈ s, f i ≠ ⊤)
    (h : ∃ i ∈ s, f i ≠ ⊥) : ∃ r : ℝ, s.fold max b f = r := by
  have ht : s.fold max b f < ⊤ :=
    (Finset.fold_max_lt _).mpr ⟨lt_top_iff_ne_top.mpr hb, fun i hi => lt_top_iff_ne_top.mpr (hf i hi)⟩
  have hl : ⊥ < s.fold max b f := by
    obtain ⟨i, hi, h⟩ := h
    exact (Finset.lt_fold_max _).mpr (.inr ⟨i, hi, bot_lt_iff_ne_bot.mpr h⟩)
  exact ⟨_, (EReal.coe_toReal ht.ne hl.ne').symm⟩

/-- The same over every index of a finite type. -/
theorem fold_max_univ {ι : Type*} [Fintype ι] (b : EReal) (f : ι → EReal) (hb : b ≠ ⊤) (hf : ∀ i, f i ≠ ⊤) (i : ι) (h : f i ≠ ⊥) :
    ∃ r : ℝ, Finset.univ.fold max b f = r :=
  fold_max_real _ b f hb (fun i _ => hf i) ⟨i, Finset.mem_univ i, h⟩

theorem max_real {a b : EReal} (ha : a ≠ ⊤) (hb : ∃ r : ℝ, b = r) : ∃ s : ℝ, max a b = s := by
  obtain ⟨r, rfl⟩ := hb
  have ht : max a r < ⊤ := max_lt (lt_top_iff_ne_top.mpr ha) (EReal.coe_lt_top r)
  have hl : ⊥ < max a r := lt_of_lt_of_le (EReal.bot_lt_coe r) (le_max_right _ _)
  exact ⟨_, (EReal.coe_toReal ht.ne hl.ne').symm⟩

theorem f32_bot : Ideal.ofBits .f32 0xFF800000#32 = ⊥ := by
  simp [Ideal.ofBits, Ideal.ieee]

theorem f32_20 : Ideal.ofBits .f32 0x41A00000#32 = ((20 : ℝ) : EReal) := by
  simp [Ideal.ofBits, Ideal.ieee, -EReal.coe_mul]; norm_num

theorem f32_10 : Ideal.ofBits .f32 0x41200000#32 = ((10 : ℝ) : EReal) := by
  simp [Ideal.ofBits, Ideal.ieee, -EReal.coe_mul]; norm_num

theorem f32_3000 : Ideal.ofBits .f32 0x453B8000#32 = ((3000 : ℝ) : EReal) := by
  simp [Ideal.ofBits, Ideal.ieee, -EReal.coe_mul]; norm_num

theorem f32_6272 : Ideal.ofBits .f32 0x45C40000#32 = ((6272 : ℝ) : EReal) := by
  simp [Ideal.ofBits, Ideal.ieee, -EReal.coe_mul]; norm_num

/-- The large negative number the kernel pads the scores with. -/
theorem f32_pad : ∃ r : ℝ, Ideal.ofBits .f32 0xF149F2CA#32 = (r : EReal) := by
  simp [Ideal.ofBits, Ideal.ieee, -EReal.coe_mul]; exact ⟨_, rfl⟩

end Cert.Reals
-- ==== Proof.Score.lean ====
/-
  The score array as the programs use it: two sets of 6272 rows (32 images of 196 patches) over 3000 prototypes, read as
  real numbers by plain numbers, with one number standing past the last prototype.
-/
module

public import Idealize.ShloMosaic.PureOps.Ideal.Laws

@[expose] public section

noncomputable section

namespace Cert.Score

open Idealize.ShloMosaic

/-- Every score is a real number. -/
def Real4 (f : Fin 2 → Fin 32 → Fin 196 → Fin 3000 → EReal) : Prop := ∀ g b p c, ∃ r : ℝ, f g b p c = r

/-- The score of row `n` and prototype `c` in set `g`. -/
def score (f : Fin 2 → Fin 32 → Fin 196 → Fin 3000 → EReal) (pad : ℝ) (g n c : ℕ) : ℝ :=
  if h : g < 2 ∧ n < 6272 ∧ c < 3000 then
    (f ⟨g, h.1⟩ ⟨n / 196, by omega⟩ ⟨n % 196, by omega⟩ ⟨c, h.2.2⟩).toReal
  else pad

variable {f : Fin 2 → Fin 32 → Fin 196 → Fin 3000 → EReal}

theorem score_of (hf : Real4 f) (pad : ℝ) (g : Fin 2) (n : Fin 6272) (c : Fin 3000) (h1 h2) :
    f g ⟨n.val / 196, h1⟩ ⟨n.val % 196, h2⟩ c = (score f pad g n c : EReal) := by
  unfold score
  rw [dif_pos ⟨g.isLt, n.isLt, c.isLt⟩]
  obtain ⟨r, hr⟩ := hf g ⟨n.val / 196, h1⟩ ⟨n.val % 196, h2⟩ c
  simp only [Fin.eta]
  rw [hr, EReal.toReal_coe]

theorem score_pad (pad : ℝ) (g n c : ℕ) (hc : 3000 ≤ c) : score f pad g n c = pad := by
  unfold score
  exact dif_neg fun h => by omega

end Cert.Score
-- ==== Proof.Reference.lean ====
/-
  What the reference computes, over real scores: the sinkhorn rounds on the whole matrix and the cross entropy, as the
  loss of Proof/Sinkhorn.lean, whatever numbers the kernel takes off the exponents of its columns.
-/
module

public import proofs.«01_k».proof.Proof.Gen.ReferenceIdeal.Read
public import proofs.«01_k».proof.Proof.Sinkhorn
public import proofs.«01_k».proof.Proof.Reals
public import proofs.«01_k».proof.Proof.Score
public import Idealize.ShloMosaic.Lib.Pointwise

@[expose] public section

set_option maxRecDepth 16384

noncomputable section

namespace Cert.ReferenceIdeal.Meaning

open Cert.ReferenceIdeal Cert.ReferenceIdeal.Gen Cert.ReferenceIdeal.Read
open Idealize.ShloMosaic Cert.Reals Cert.Score Cert.Sinkhorn

/-- The scores at their four coordinates. -/
def scores (x : FVec Ideal S2x32x196x3000 .f32) : Fin 2 → Fin 32 → Fin 196 → Fin 3000 → EReal :=
  fun g b p c => x (ix4 g b p c)

/-- A `3000 × 6272` matrix holds the real numbers `Q`. -/
def Holds (v : FVec Ideal S3000x6272 .f32) (Q : ℕ → ℕ → ℝ) : Prop :=
  ∀ (c : Fin 3000) (n : Fin 6272), v (ix2 c n) = (Q c n : EReal)

/-- The real numbers `Q` are positive over the matrix. -/
def Pos (Q : ℕ → ℕ → ℝ) : Prop := ∀ c, c < 3000 → ∀ n, n < 6272 → 0 < Q c n

variable (x : FVec Ideal S2x32x196x3000 .f32)

/-- Dividing by the quotient `1/k` multiplies by `k`. -/
theorem div_inv (a k : ℝ) (hk : k ≠ 0) : Ideal.div (a : EReal) (Ideal.div 1 (k : EReal)) = ((k * a : ℝ) : EReal) := by
  rw [← EReal.coe_one, div_real _ hk, div_real _ (one_div_ne_zero hk)]
  congr 1; field_simp

variable {x} (hx : Real4 (scores x)) (pad : ℝ)
include hx

/-- The scaled scores of the first set. -/
theorem v5_eq (n : Fin 6272) (c : Fin 3000) :
    val_main_v5 (F := Ideal) x (ix2 n c) = ((20 * score (scores x) pad 0 n c : ℝ) : EReal) := by
  pointwise [val_main_v5, val_main_v4, val_main_v3, val_main_v2, val_main_v1, val_main_v0, val_main_cst, val_main_cst_0]
  rw [f32_20]
  exact (congrArg (Ideal.div · _) (score_of hx pad 0 n c _ _)).trans (div_inv _ _ (by norm_num))

/-- The scaled scores of the second set. -/
theorem v60_eq (n : Fin 6272) (c : Fin 3000) :
    val_main_v60 (F := Ideal) x (ix2 n c) = ((10 * score (scores x) pad 1 n c : ℝ) : EReal) := by
  pointwise [val_main_v60, val_main_v59, val_main_v55, val_main_v58, val_main_v57, val_main_v56, val_main_cst_14, val_main_cst_15]
  rw [f32_10]
  exact (congrArg (Ideal.div · _) (score_of hx pad 1 n c _ _)).trans (div_inv _ _ (by norm_num))

/-- The largest scaled score is a real number. -/
theorem v6_eq : ∃ M : ℝ, val_main_v6 (F := Ideal) x ix0 = M := by
  pointwise [val_main_v6, val_main_cst_1]
  rw [f32_bot]
  refine fold_max_univ _ _ bot_ne_top (fun k => ?_) (⟨0, by norm_num⟩, ⟨0, by norm_num⟩) ?_
  · rw [v5_eq hx 0]; exact EReal.coe_ne_top _
  · rw [v5_eq hx 0]; exact EReal.coe_ne_bot _

/-- The starting matrix: the exponentials of the scaled scores, divided by a positive number. -/
theorem v13_eq : ∃ M S : ℝ, 0 < S ∧
    Holds (val_main_v13 (F := Ideal) x) fun c n => Real.exp (20 * score (scores x) pad 0 n c - M) / S := by
  obtain ⟨M, hM⟩ := v6_eq hx
  have h9 (n : Fin 6272) (c : Fin 3000) :
      val_main_v9 (F := Ideal) x (ix2 n c) = ((Real.exp (20 * score (scores x) pad 0 n c - M) : ℝ) : EReal) := by
    pointwise [val_main_v9, val_main_v8, val_main_v7]
    rw [v5_eq hx pad, hM, ← EReal.coe_sub, Ideal.exp_coe]
  have h11 : val_main_v11 (F := Ideal) x ix0 = ((∑ c ∈ Finset.range 3000, ∑ n ∈ Finset.range 6272,
      Real.exp (20 * score (scores x) pad 0 n c - M) : ℝ) : EReal) := by
    pointwise [val_main_v11, val_main_cst_2, val_main_v10]
    refine sum_fin' _ (fun c => ∑ n ∈ Finset.range 6272, Real.exp (20 * score (scores x) pad 0 n c - M)) fun c => ?_
    exact sum_fin' _ (fun n => Real.exp (20 * score (scores x) pad 0 n c - M)) fun n => h9 n c
  have hS := sum_pos_range (M := 3000) (by norm_num)
    fun c => sum_pos_range (M := 6272) (by norm_num) fun n => Real.exp_pos (20 * score (scores x) pad 0 n c - M)
  refine ⟨M, _, hS, fun c n => ?_⟩
  pointwise [val_main_v13, val_main_v12, val_main_v10]
  rw [h9, h11, div_real _ hS.ne']

omit hx in
/-- The first half of a round, as the program writes it. -/
theorem byRow_read {v : FVec Ideal S3000x6272 .f32} {Q : ℕ → ℕ → ℝ} (hv : Holds v Q) (hQ : Pos Q) (c : Fin 3000) (n : Fin 6272) :
    v (ix2 c n) * Ideal.div (Ideal.div 1 (Ideal.ofBits .f32 0x453B8000#32)) (∑ j : Fin 6272, v (ix2 c j))
      = (byRow 6272 3000 Q c n : EReal) := by
  rw [sum_fin' 6272 (fun j => Q c j) fun j => hv c j, hv c n, f32_3000, ← EReal.coe_one, div_real _ (by norm_num),
    div_real _ (sum_pos_on (by norm_num) (hQ c c.isLt)).ne', ← EReal.coe_mul]
  unfold byRow; norm_num

omit hx in
/-- The second half of a round, as the program writes it. -/
theorem byCol_read {v : FVec Ideal S3000x6272 .f32} {Q : ℕ → ℕ → ℝ} (hv : Holds v Q) (hQ : Pos Q) (c : Fin 3000) (n : Fin 6272) :
    v (ix2 c n) * Ideal.div (Ideal.div 1 (Ideal.ofBits .f32 0x45C40000#32)) (∑ j : Fin 3000, v (ix2 j n))
      = (byCol 6272 3000 Q c n : EReal) := by
  rw [sum_fin' 3000 (fun j => Q j n) fun j => hv j n, hv c n, f32_6272, ← EReal.coe_one, div_real _ (by norm_num),
    div_real _ (sum_pos_on (by norm_num) fun c hc => hQ c hc n n.isLt).ne', ← EReal.coe_mul]
  unfold byCol; norm_num

omit hx in
theorem row_pos {Q : ℕ → ℕ → ℝ} (hQ : Pos Q) : Pos (byRow 6272 3000 Q) := byRow_pos (by norm_num) (by norm_num) hQ

omit hx in
theorem col_pos {Q : ℕ → ℕ → ℝ} (hQ : Pos Q) : Pos (byCol 6272 3000 Q) := byCol_pos (by norm_num) (by norm_num) hQ

omit hx in
theorem round1 {Q : ℕ → ℕ → ℝ} (h : Holds (val_main_v13 (F := Ideal) x) Q) (hQ : Pos Q) :
    Holds (val_main_v29 (F := Ideal) x) (byCol 6272 3000 (byRow 6272 3000 Q)) := by
  have h24 : Holds (val_main_v24 (F := Ideal) x) (byRow 6272 3000 Q) := fun c n => by
    rw [← byRow_read h hQ]
    pointwise [val_main_v24, val_main_v23, val_main_v22, val_main_v21, val_main_v20, val_main_v16, val_main_v14, val_main_v15,
      val_main_cst_3, val_main_cst_4, val_main_cst_7]
  intro c n
  rw [← byCol_read h24 (row_pos hQ)]
  pointwise [val_main_v29, val_main_v28, val_main_v27, val_main_v26, val_main_v25, val_main_v19, val_main_v17, val_main_v18,
    val_main_cst_5, val_main_cst_6, val_main_cst_8]

omit hx in
theorem round2 {Q : ℕ → ℕ → ℝ} (h : Holds (val_main_v29 (F := Ideal) x) Q) (hQ : Pos Q) :
    Holds (val_main_v39 (F := Ideal) x) (byCol 6272 3000 (byRow 6272 3000 Q)) := by
  have h34 : Holds (val_main_v34 (F := Ideal) x) (byRow 6272 3000 Q) := fun c n => by
    rw [← byRow_read h hQ]
    pointwise [val_main_v34, val_main_v33, val_main_v32, val_main_v31, val_main_v30, val_main_v16, val_main_v14, val_main_v15,
      val_main_cst_3, val_main_cst_4, val_main_cst_9]
  intro c n
  rw [← byCol_read h34 (row_pos hQ)]
  pointwise [val_main_v39, val_main_v38, val_main_v37, val_main_v36, val_main_v35, val_main_v19, val_main_v17, val_main_v18,
    val_main_cst_5, val_main_cst_6, val_main_cst_10]

omit hx in
theorem round3 {Q : ℕ → ℕ → ℝ} (h : Holds (val_main_v39 (F := Ideal) x) Q) (hQ : Pos Q) :
    Holds (val_main_v49 (F := Ideal) x) (byCol 6272 3000 (byRow 6272 3000 Q)) := by
  have h44 : Holds (val_main_v44 (F := Ideal) x) (byRow 6272 3000 Q) := fun c n => by
    rw [← byRow_read h hQ]
    pointwise [val_main_v44, val_main_v43, val_main_v42, val_main_v41, val_main_v40, val_main_v16, val_main_v14, val_main_v15,
      val_main_cst_3, val_main_cst_4, val_main_cst_11]
  intro c n
  rw [← byCol_read h44 (row_pos hQ)]
  pointwise [val_main_v49, val_main_v48, val_main_v47, val_main_v46, val_main_v45, val_main_v19, val_main_v17, val_main_v18,
    val_main_cst_5, val_main_cst_6, val_main_cst_12]

/-- The logarithm of the softmax of the second set, over some real number taken off each row. -/
theorem v61_eq : ∃ s : ℕ → ℝ, ∀ (n : Fin 6272) (c : Fin 3000), val_main_v61 (F := Ideal) x (ix2 n c)
    = ((10 * score (scores x) pad 1 n c - s n
        - Real.log (∑ j ∈ Finset.range 3000, Real.exp (10 * score (scores x) pad 1 n j - s n)) : ℝ) : EReal) := by
  have h0 (n : Fin 6272) : ∃ r : ℝ, val_main_call0_v2 (F := Ideal) x (ix1 n) = r := by
    have hbot : val_main_call0_v1 (F := Ideal) (ix1 n) = ⊥ := by
      pointwise [val_main_call0_v1, val_main_call0_cst_0]
      exact f32_bot
    have hmax : ∃ r : ℝ, val_main_call0_v0 (F := Ideal) x (ix1 n) = r := by
      pointwise [val_main_call0_v0, val_main_call0_cst]
      rw [f32_bot]
      refine fold_max_univ _ _ bot_ne_top (fun k => ?_) ⟨0, by norm_num⟩ ?_
      · rw [v60_eq hx 0]; exact EReal.coe_ne_top _
      · rw [v60_eq hx 0]; exact EReal.coe_ne_bot _
    rw [val_main_call0_v2_apply, hbot]
    exact max_real bot_ne_top hmax
  choose s0 hs0 using h0
  have h5 (n : Fin 6272) (c : Fin 3000) : val_main_call0_v5 (F := Ideal) x (ix2 n c)
      = ((10 * score (scores x) pad 1 n c - s0 n : ℝ) : EReal) := by
    pointwise [val_main_call0_v5, val_main_call0_v4, val_main_call0_v3]
    rw [v60_eq hx pad, hs0, ← EReal.coe_sub]
  refine ⟨fun n => if h : n < 6272 then s0 ⟨n, h⟩ else 0, fun n c => ?_⟩
  have hp : 0 < ∑ j ∈ Finset.range 3000, Real.exp (10 * score (scores x) pad 1 n j - s0 n) :=
    sum_pos_range (by norm_num) fun j => Real.exp_pos _
  have hsum : ∑ j : Fin 3000, Ideal.exp (val_main_call0_v5 (F := Ideal) x (ix2 n j))
      = ((∑ j ∈ Finset.range 3000, Real.exp (10 * score (scores x) pad 1 n j - s0 n) : ℝ) : EReal) :=
    sum_fin' _ (fun j => Real.exp (10 * score (scores x) pad 1 n j - s0 n)) fun j => by rw [h5, Ideal.exp_coe]
  pointwise [val_main_v61, val_main_call0_v10, val_main_call0_v9, val_main_call0_v8, val_main_call0_v7, val_main_call0_v6,
    val_main_call0_cst_1]
  rw [hsum, h5, log_real hp, ← EReal.coe_sub]

/-- What the reference returns over real scores. -/
theorem result_eq (mu : ℕ → ℝ) :
    val_main_v68 (F := Ideal) x ix0
      = ((-(loss 6272 3000 (fun n c => Real.exp (20 * score (scores x) pad 0 n c - mu c))
          (fun n c => 10 * score (scores x) pad 1 n c)
          (weight 6272 3000 (fun n c => Real.exp (20 * score (scores x) pad 0 n c - mu c)) 2) / 6272) : ℝ) : EReal) := by
  obtain ⟨M, S, hS, h13⟩ := v13_eq hx pad
  obtain ⟨s, h61⟩ := v61_eq hx pad
  generalize he : (fun n c => Real.exp (20 * score (scores x) pad 0 n c - mu c) : ℕ → ℕ → ℝ) = e
  have hpos (n c : ℕ) : 0 < e n c := by rw [← he]; exact Real.exp_pos _
  have h0 : Pos fun c n => Real.exp (20 * score (scores x) pad 0 n c - M) / S := fun c _ n _ => div_pos (Real.exp_pos _) hS
  have h49 := round3 (round2 (round1 h13 h0) (col_pos (row_pos h0))) (col_pos (row_pos (col_pos (row_pos h0))))
  have hp49 := col_pos (row_pos (col_pos (row_pos (col_pos (row_pos h0)))))
  have hform := rounds_of (N := 6272) (K := 3000) (e := e) (by norm_num) (by norm_num) hpos
    (g := fun c => Real.exp (mu c - M) / S) (fun c => div_pos (Real.exp_pos _) hS)
    (Q := fun c n => Real.exp (20 * score (scores x) pad 0 n c - M) / S)
    (fun c _ n _ => by rw [← he]; show _ = Real.exp _ * (Real.exp _ / S); rw [← mul_div_assoc, ← Real.exp_add]; congr 2; ring) 2
  set Q := byCol 6272 3000 (byRow 6272 3000 (byCol 6272 3000 (byRow 6272 3000 (byCol 6272 3000 (byRow 6272 3000
    fun c n => Real.exp (20 * score (scores x) pad 0 n c - M) / S))))) with hQdef
  change ∀ c, c < 3000 → ∀ n, n < 6272 → Q c n = _ at hform
  have hal := weight_pos (N := 6272) (K := 3000) (e := e) (by norm_num) (by norm_num) hpos 2
  have h53 (c : Fin 3000) (n : Fin 6272) : val_main_v53 (F := Ideal) x (ix2 c n)
      = ((e n c * weight 6272 3000 e 2 c / mass 3000 e (weight 6272 3000 e 2) n : ℝ) : EReal) := by
    pointwise [val_main_v53, val_main_v52, val_main_v51, val_main_v50, val_main_cst_13]
    rw [sum_fin' 3000 (fun j => Q j n) fun j => h49 j n, h49 c n,
      div_real _ (sum_pos_on (by norm_num) fun c hc => hp49 c hc n n.isLt).ne',
      share_of (by norm_num) (by norm_num) hpos hal hform c c.isLt n n.isLt]
  have hsum : ∑ n : Fin 6272, ∑ c : Fin 3000, val_main_v53 (F := Ideal) x (ix2 c n) * val_main_v61 (F := Ideal) x (ix2 n c)
      = ((loss 6272 3000 e (fun n c => 10 * score (scores x) pad 1 n c) (weight 6272 3000 e 2) : ℝ) : EReal) := by
    rw [← loss_of (by norm_num) (by norm_num) hpos _ hal s]
    refine sum_fin' 6272 (fun n => ∑ c ∈ Finset.range 3000, e n c * weight 6272 3000 e 2 c / mass 3000 e (weight 6272 3000 e 2) n
        * (10 * score (scores x) pad 1 n c - s n
            - Real.log (∑ j ∈ Finset.range 3000, Real.exp (10 * score (scores x) pad 1 n j - s n)))) fun n => ?_
    refine sum_fin' 3000 (fun c => e n c * weight 6272 3000 e 2 c / mass 3000 e (weight 6272 3000 e 2) n
        * (10 * score (scores x) pad 1 n c - s n
            - Real.log (∑ j ∈ Finset.range 3000, Real.exp (10 * score (scores x) pad 1 n j - s n)))) fun c => ?_
    rw [h53, h61, ← EReal.coe_mul]
  pointwise [val_main_v68, val_main_v67, val_main_v66, val_main_v65, val_main_v64, val_main_v63, val_main_v62, val_main_v54,
    val_main_cst_16, val_main_cst_17, val_main_cst_18, val_main_cst_19, val_main_cst_20, val_main_cst_21]
  rw [hsum, f32_6272, div_real _ (by norm_num), zero_sub, ← EReal.coe_neg, ← EReal.coe_one, div_real _ one_ne_zero, div_one]

end Cert.ReferenceIdeal.Meaning
-- ==== Proof.Ideal.Lanes.lean ====
/-
  Real numbers held in the lanes of a 24 by 128 block: prototype `c` lies in lane `c % 128` of row `c / 128`, and the
  last 72 lanes are padding.
-/
module

public import proofs.«01_k».proof.Proof.Gen.KernelIdeal.Skeleton
public import proofs.«01_k».proof.Proof.Reals
public import Idealize.ShloMosaic.Lib.Pointwise
public import Idealize.ShloMosaic.Lib.WordCmp

@[expose] public section

set_option maxRecDepth 16384

noncomputable section

namespace Cert.KernelIdeal.Lane

open Cert.KernelIdeal Cert.KernelIdeal.Gen
open Idealize.ShloMosaic
open Cert.Reals Finset

/-- The block holds the numbers `f`, one prototype to a lane. -/
def Lanes (v : FVec Ideal S24x128 .f32) (f : ℕ → ℝ) : Prop :=
  ∀ (i : Fin 24) (l : Fin 128), v (ix2 i l) = (f (128 * i.val + l.val) : EReal)

/-- The rows of a block of scores hold the numbers `f`. -/
def Rows (x : FVec Ideal S448x24x128 .f32) (f : ℕ → ℕ → ℝ) : Prop :=
  ∀ (r : Fin 448) (i : Fin 24) (l : Fin 128), x (ix3 r i l) = (f r.val (128 * i.val + l.val) : EReal)

/-- The numbers `w` on the prototypes, zero on the padding. -/
def cut (w : ℕ → ℝ) (c : ℕ) : ℝ := if c < 3000 then w c else 0

theorem lanes_of_real {v : FVec Ideal S24x128 .f32} (h : ∀ (i : Fin 24) (l : Fin 128), ∃ r : ℝ, v (ix2 i l) = r) :
    ∃ f, Lanes v f := by
  refine ⟨fun c => if hc : c / 128 < 24 then (v (ix2 ⟨c / 128, hc⟩ ⟨c % 128, Nat.mod_lt _ (by norm_num)⟩)).toReal else 0, fun i l => ?_⟩
  have hl := l.isLt
  have hi : (128 * i.val + l.val) / 128 = i.val := by omega
  have hm : (128 * i.val + l.val) % 128 = l.val := by omega
  obtain ⟨r, hr⟩ := h i l
  have h1 : (⟨(128 * i.val + l.val) / 128, by omega⟩ : Fin 24) = i := Fin.ext hi
  have h2 : (⟨(128 * i.val + l.val) % 128, Nat.mod_lt _ (by norm_num)⟩ : Fin 128) = l := Fin.ext hm
  dsimp only
  rw [dif_pos (by omega), h1, h2, hr, EReal.toReal_coe]

theorem mask {α : Type} (i : Fin 24) (l : Fin 128) (a b : α) :
    Scalar.select (IntOp.cmpi .slt (IntOp.addi (IntOp.muli (BitVec.ofNat 32 i.val) 128#32) (BitVec.ofNat 32 l.val)) 3000#32) a b
      = if 128 * i.val + l.val < 3000 then a else b := by
  have hi := i.isLt
  have hl := l.isLt
  have e : IntOp.addi (IntOp.muli (BitVec.ofNat 32 i.val) 128#32) (BitVec.ofNat 32 l.val) = BitVec.ofNat 32 (128 * i.val + l.val) := by
    apply BitVec.eq_of_toNat_eq
    simp [IntOp.addi, IntOp.muli]
    omega
  rw [e, WordCmp.cmpi_slt_ofNat (by norm_num; omega) (by norm_num)]
  by_cases h : 128 * i.val + l.val < 3000 <;> simp [h, Scalar.select]

/-- The sum over a run of blocks, block by block. -/
theorem sum_blocks (k n : ℕ) (g : ℕ → ℝ) : ∑ i ∈ range n, ∑ l ∈ range k, g (k * i + l) = ∑ c ∈ range (k * n), g c := by
  induction n with
  | zero => simp
  | succ n ih => rw [sum_range_succ, ih, Nat.mul_succ, sum_range_add]

/-- A sum over the lanes of numbers that vanish on the padding is a sum over the prototypes. -/
theorem sum_lanes {g : ℕ → ℝ} (hg : ∀ c, 3000 ≤ c → g c = 0) :
    ∑ i ∈ range 24, ∑ l ∈ range 128, g (128 * i + l) = ∑ c ∈ range 3000, g c := by
  rw [sum_blocks, show 128 * 24 = 3000 + 72 from rfl, sum_range_add, sum_eq_zero fun c _ => hg (3000 + c) (by omega), add_zero]

/-- The same of the lanes of a block. -/
theorem sum_of_lanes {v : Fin 24 → Fin 128 → EReal} {g : ℕ → ℝ} (hv : ∀ i l, v i l = (g (128 * i.val + l.val) : EReal))
    (hg : ∀ c, 3000 ≤ c → g c = 0) : ∑ i, ∑ l, v i l = ((∑ c ∈ range 3000, g c : ℝ) : EReal) := by
  rw [← sum_lanes hg]
  refine sum_fin' 24 (fun i => ∑ l ∈ range 128, g (128 * i + l)) fun i => ?_
  exact sum_fin' 128 (fun l => g (128 * i.val + l)) fun l => hv i l

/-- One more block of rows. -/
theorem sum_rows (t : ℕ) (g : ℕ → ℝ) :
    ∑ k ∈ range (448 * (t + 1)), g k = ∑ k ∈ range (448 * t), g k + ∑ r ∈ range 448, g (448 * t + r) := by
  rw [Nat.mul_succ, sum_range_add]

end Cert.KernelIdeal.Lane
-- ==== Proof.Ideal.Pass1Value.lean ====
/-
  The first kernel's values over real numbers: one block's running column maxima, its exponentials, the running column
  sums and the first column weights, for scores `x` scaled by twenty.
-/
module

public import proofs.«01_k».proof.Proof.Ideal.Lanes
public import proofs.«01_k».proof.Proof.Sinkhorn

@[expose] public section

set_option maxRecDepth 16384

noncomputable section

namespace Cert.KernelIdeal.Lane

open Cert.KernelIdeal Cert.KernelIdeal.Gen
open Idealize.ShloMosaic
open Cert.Reals Cert.Sinkhorn Finset

variable {x : FVec Ideal S448x24x128 .f32} {f : ℕ → ℕ → ℝ} {m p : FVec Ideal S24x128 .f32} {mu : ℕ → ℝ}

theorem k0_max_eq (x : FVec Ideal S448x24x128 .f32) (m : FVec Ideal S24x128 .f32) (i : Fin 24) (l : Fin 128) :
    k0_pay5 (F := Ideal) x m (ix2 i l) = max (m (ix2 i l))
      (Finset.univ.fold max (Ideal.ofBits .f32 0xFF800000#32) fun r : Fin 448 => x (ix3 r i l) * Ideal.ofBits .f32 0x41A00000#32) := by
  pointwise [k0_pay5, k0_pay4]

theorem k0_max_kept (x : FVec Ideal S448x24x128 .f32) (m : FVec Ideal S24x128 .f32) : k0_pay10 (F := Ideal) x m = k0_pay5 (F := Ideal) x m := by
  funext j
  pointwise [k0_pay10]

/-- The maxima after a block are real, whatever real numbers it holds. -/
theorem k0_max_real (hx : Rows x f) (hm : ∀ (i : Fin 24) (l : Fin 128), m (ix2 i l) ≠ ⊤) : ∃ mu, Lanes (k0_pay5 (F := Ideal) x m) mu := by
  refine lanes_of_real fun i l => ?_
  rw [k0_max_eq, f32_bot, f32_20]
  have h (r : Fin 448) : x (ix3 r i l) * ((20 : ℝ) : EReal) = ((f r.val (128 * i.val + l.val) * 20 : ℝ) : EReal) := by
    rw [hx, EReal.coe_mul]
  refine max_real (hm i l) (fold_max_univ ⊥ _ bot_ne_top (fun r => ?_) (0 : Fin 448) ?_)
  · rw [h]; exact EReal.coe_ne_top _
  · rw [h]; exact EReal.coe_ne_bot _

theorem k0_exp_eq (x : FVec Ideal S448x24x128 .f32) (m : FVec Ideal S24x128 .f32) (r : Fin 448) (i : Fin 24) (l : Fin 128) :
    k0_pay6 (F := Ideal) x m (ix3 r i l) = Ideal.exp (x (ix3 r i l) * Ideal.ofBits .f32 0x41A00000#32 - k0_pay5 (F := Ideal) x m (ix2 i l)) := by
  pointwise [k0_pay6, k0_pay4]

/-- A block's exponentials, each over its column's maximum so far. -/
theorem k0_exp_real (hx : Rows x f) (hmu : Lanes (k0_pay5 (F := Ideal) x m) mu) : Rows (k0_pay6 (F := Ideal) x m) fun r c => Real.exp (20 * f r c - mu c) := by
  intro r i l
  rw [k0_exp_eq, hx, hmu, f32_20, ← EReal.coe_mul, ← EReal.coe_sub, Ideal.exp_coe, mul_comm]

theorem k0_sum_eq (x : FVec Ideal S448x24x128 .f32) (m p : FVec Ideal S24x128 .f32) (i : Fin 24) (l : Fin 128) :
    k0_pay9 (F := Ideal) x m p (ix2 i l)
      = p (ix2 i l) * Ideal.exp (m (ix2 i l) - k0_pay5 (F := Ideal) x m (ix2 i l)) + ∑ r : Fin 448, k0_pay6 (F := Ideal) x m (ix3 r i l) := by
  pointwise [k0_pay9]

/-- The column sums after a block, from the old ones brought to the new maxima. -/
theorem k0_sum_real (hx : Rows x f) (hmu : Lanes (k0_pay5 (F := Ideal) x m) mu) {q : ℕ → ℝ}
    (hq : ∀ (i : Fin 24) (l : Fin 128),
      p (ix2 i l) * Ideal.exp (m (ix2 i l) - (mu (128 * i.val + l.val) : EReal)) = (q (128 * i.val + l.val) : EReal)) :
    Lanes (k0_pay9 (F := Ideal) x m p) fun c => q c + ∑ r ∈ range 448, Real.exp (20 * f r c - mu c) := by
  intro i l
  rw [k0_sum_eq, hmu, hq, sum_fin' 448 (fun r => Real.exp (20 * f r (128 * i.val + l.val) - mu (128 * i.val + l.val)))
    fun r => k0_exp_real hx hmu r i l, ← EReal.coe_add]

theorem k0_packed_eq (x : FVec Ideal S448x24x128 .f32) (m : FVec Ideal S24x128 .f32) (r : Fin 224) (i : Fin 48) (l : Fin 128) :
    k0_pay7 (F := Ideal) x m (ix3 r i l)
      = k0_pay6 (F := Ideal) x m (ix3 ⟨r.val * 2 + i.val / 24, by omega⟩ ⟨i.val % 24, by omega⟩ l) := by
  pointwise [k0_pay7]

theorem k1_unpacked_eq (a : FVec Ideal S224x48x128 .bf16) (r : Fin 448) (i : Fin 24) (l : Fin 128) :
    k1_pay7 (F := Ideal) a (ix3 r i l) = a (ix3 ⟨r.val / 2, by omega⟩ ⟨r.val % 2 * 24 + i.val, by omega⟩ l) := by
  pointwise [k1_pay7]

/-- Packed two rows to one and unpacked, the exponentials are as they were. -/
theorem k1_unpacked (x : FVec Ideal S448x24x128 .f32) (m : FVec Ideal S24x128 .f32) (r : Fin 448) (i : Fin 24) (l : Fin 128) :
    k1_pay7 (F := Ideal) (k0_pay7 (F := Ideal) x m) (ix3 r i l) = k0_pay6 (F := Ideal) x m (ix3 r i l) := by
  rw [k1_unpacked_eq, k0_packed_eq]
  have hr : (⟨(r.val / 2) * 2 + (r.val % 2 * 24 + i.val) / 24, by omega⟩ : Fin 448) = r := Fin.ext (by dsimp only; omega)
  have hi : (⟨(r.val % 2 * 24 + i.val) % 24, by omega⟩ : Fin 24) = i := Fin.ext (by dsimp only; omega)
  dsimp only
  rw [hr, hi]

theorem k0_stored_eq (x : FVec Ideal S448x24x128 .f32) (m : FVec Ideal S24x128 .f32) (i : Fin 24) (l : Fin 128) :
    k0_pay8 (F := Ideal) x m (ix3 0 i l) = k0_pay5 (F := Ideal) x m (ix2 i l) := by
  pointwise [k0_pay8]

theorem k0_start_max (i : Fin 24) (l : Fin 128) : (k0_pay2 : FVec Ideal S24x128 .f32) (ix2 i l) = ⊥ := by
  refine Eq.trans ?_ f32_bot
  pointwise [k0_pay2]

theorem k0_start_sum (i : Fin 24) (l : Fin 128) : (k0_pay3 : FVec Ideal S24x128 .f32) (ix2 i l) = 0 := by
  pointwise [k0_pay3]

theorem inv_k : (Named.named κ "inv_k" 0x39AEC33E#32 : Ideal .f32) = ((1 / 3000 : ℝ) : EReal) :=
  IdealRules.named_const.ideal_named_scalar _ _ _ _ rfl

theorem inv_n : (Named.named κ "inv_n" 0x39272F05#32 : Ideal .f32) = ((1 / 6272 : ℝ) : EReal) :=
  IdealRules.named_const.ideal_named_scalar _ _ _ _ rfl

theorem k0_weights_eq (p : FVec Ideal S24x128 .f32) (i : Fin 24) (l : Fin 128) :
    k0_pay1 (F := Ideal) p (ix2 i l) = Scalar.select (IntOp.cmpi .slt (IntOp.addi (IntOp.muli (BitVec.ofNat 32 i.val) 128#32) (BitVec.ofNat 32 l.val)) 3000#32)
      (Ideal.div (Named.named κ "inv_k" 0x39AEC33E#32 : Ideal .f32) (p (ix2 i l))) 0 := by
  pointwise [k0_pay1]

theorem k1_weights_eq (p : FVec Ideal S24x128 .f32) (i : Fin 24) (l : Fin 128) :
    k1_pay2 (F := Ideal) p (ix2 i l) = Scalar.select (IntOp.cmpi .slt (IntOp.addi (IntOp.muli (BitVec.ofNat 32 i.val) 128#32) (BitVec.ofNat 32 l.val)) 3000#32)
      (Ideal.div (Named.named κ "inv_k" 0x39AEC33E#32 : Ideal .f32) (p (ix2 i l))) 0 := by
  pointwise [k1_pay2]

theorem masked {a b : EReal} {s : ℝ} (i : Fin 24) (l : Fin 128) (ha : a = ((1 / 3000 : ℝ) : EReal)) (hb : b = (s : EReal)) (hs : s ≠ 0)
    {w : ℕ → ℝ} (hw : w (128 * i.val + l.val) = 1 / 3000 / s) :
    Scalar.select (IntOp.cmpi .slt (IntOp.addi (IntOp.muli (BitVec.ofNat 32 i.val) 128#32) (BitVec.ofNat 32 l.val)) 3000#32) (Ideal.div a b) 0
      = (cut w (128 * i.val + l.val) : EReal) := by
  rw [mask, cut, ha, hb, div_real _ hs, hw]
  split <;> rfl

/-- The column sums of the weighted rows give the column weights, which are zero on the padding. -/
theorem k0_weights_real {s w : ℕ → ℝ} (hp : Lanes p s) (hs : ∀ c, s c ≠ 0) (hw : ∀ c, w c = 1 / 3000 / s c) :
    Lanes (k0_pay1 (F := Ideal) p) (cut w) := by
  intro i l
  rw [k0_weights_eq]
  exact masked i l inv_k (hp i l) (hs _) (hw _)

theorem k1_weights_real {s w : ℕ → ℝ} (hp : Lanes p s) (hs : ∀ c, s c ≠ 0) (hw : ∀ c, w c = 1 / 3000 / s c) :
    Lanes (k1_pay2 (F := Ideal) p) (cut w) := by
  intro i l
  rw [k1_weights_eq]
  exact masked i l inv_k (hp i l) (hs _) (hw _)

end Cert.KernelIdeal.Lane
-- ==== Proof.Ideal.SweepValue.lean ====
/-
  The second kernel's values over real numbers: one block's row weights and its part of the weighted column sums.
-/
module

public import proofs.«01_k».proof.Proof.Ideal.Pass1Value

@[expose] public section

set_option maxRecDepth 16384

noncomputable section

namespace Cert.KernelIdeal.Lane

open Cert.KernelIdeal Cert.KernelIdeal.Gen
open Idealize.ShloMosaic
open Cert.Reals Cert.Sinkhorn Finset

/-- The kernel matrix: the exponentials of the scaled scores, each over its column's number `M`. -/
def expo (f : ℕ → ℕ → ℝ) (M : ℕ → ℝ) (n c : ℕ) : ℝ := Real.exp (20 * f n c - M c)

theorem expo_pos (f : ℕ → ℕ → ℝ) (M : ℕ → ℝ) (n c : ℕ) : 0 < expo f M n c := Real.exp_pos _

/-- Brought from one column number to another. -/
theorem expo_shift (f : ℕ → ℕ → ℝ) (mu M : ℕ → ℝ) (n c : ℕ) : expo f mu n c * Real.exp (mu c - M c) = expo f M n c := by
  unfold expo
  rw [← Real.exp_add]
  congr 1
  ring

variable {x : FVec Ideal S448x24x128 .f32} {f : ℕ → ℕ → ℝ} {m mx al p : FVec Ideal S24x128 .f32} {mu M w q : ℕ → ℝ}

theorem k1_scale_eq (mb : FVec Ideal S1x24x128 .f32) (mx : FVec Ideal S24x128 .f32) (i : Fin 24) (l : Fin 128) :
    k1_pay6 (F := Ideal) mb mx (ix2 i l) = Ideal.exp (mb (ix3 0 i l) - mx (ix2 i l)) := by
  pointwise [k1_pay6]

theorem k1_scale_real (hmu : Lanes (k0_pay5 (F := Ideal) x m) mu) (hM : Lanes mx M) :
    Lanes (k1_pay6 (F := Ideal) (k0_pay8 (F := Ideal) x m) mx) fun c => Real.exp (mu c - M c) := by
  intro i l
  rw [k1_scale_eq, k0_stored_eq, hmu, hM, ← EReal.coe_sub, Ideal.exp_coe]

theorem k1_rows_eq (mb : FVec Ideal S1x24x128 .f32) (mx : FVec Ideal S24x128 .f32) (a : FVec Ideal S224x48x128 .bf16)
    (al : FVec Ideal S24x128 .f32) (r : Fin 448) :
    k1_pay8 (F := Ideal) mb mx a al (ix1 r) = Ideal.div (Named.named κ "inv_n" 0x39272F05#32 : Ideal .f32)
      (∑ i, ∑ l, k1_pay7 (F := Ideal) a (ix3 r i l) * (k1_pay6 (F := Ideal) mb mx (ix2 i l) * al (ix2 i l))) := by
  pointwise [k1_pay8]

/-- One entry of a row's weighted exponentials. -/
theorem entry_real (hx : Rows x f) (hmu : Lanes (k0_pay5 (F := Ideal) x m) mu) (hM : Lanes mx M) (hal : Lanes al (cut w))
    (r : Fin 448) (i : Fin 24) (l : Fin 128) :
    k1_pay7 (F := Ideal) (k0_pay7 (F := Ideal) x m) (ix3 r i l) * (k1_pay6 (F := Ideal) (k0_pay8 (F := Ideal) x m) mx (ix2 i l) * al (ix2 i l))
      = (cut (fun c => expo f M r c * w c) (128 * i.val + l.val) : EReal) := by
  rw [k1_unpacked, k0_exp_real hx hmu, k1_scale_real hmu hM, hal, ← EReal.coe_mul, ← EReal.coe_mul, ← mul_assoc]
  congr 1
  have h := expo_shift f mu M r (128 * i.val + l.val)
  unfold expo at h
  rw [h, cut, cut]
  split
  · rfl
  · exact mul_zero _

theorem cut_zero (w : ℕ → ℝ) (c : ℕ) (h : 3000 ≤ c) : cut w c = 0 := if_neg (by omega)

theorem sum_cut (w : ℕ → ℝ) : ∑ c ∈ range 3000, cut w c = ∑ c ∈ range 3000, w c :=
  sum_congr rfl fun c hc => if_pos (mem_range.mp hc)

/-- A row's mass under the column weights. -/
theorem mass_real (hx : Rows x f) (hmu : Lanes (k0_pay5 (F := Ideal) x m) mu) (hM : Lanes mx M) (hal : Lanes al (cut w)) (r : Fin 448) :
    ∑ i, ∑ l, k1_pay7 (F := Ideal) (k0_pay7 (F := Ideal) x m) (ix3 r i l) * (k1_pay6 (F := Ideal) (k0_pay8 (F := Ideal) x m) mx (ix2 i l) * al (ix2 i l))
      = (mass 3000 (expo f M) w r : EReal) := by
  rw [sum_of_lanes (entry_real hx hmu hM hal r) (cut_zero _), sum_cut, mass]

/-- A block's row weights. -/
theorem k1_rows_real (hx : Rows x f) (hmu : Lanes (k0_pay5 (F := Ideal) x m) mu) (hM : Lanes mx M) (hal : Lanes al (cut w))
    (hw : ∀ c, 0 < w c) (r : Fin 448) :
    k1_pay8 (F := Ideal) (k0_pay8 (F := Ideal) x m) mx (k0_pay7 (F := Ideal) x m) al (ix1 r) = (rows 6272 3000 (expo f M) w r : EReal) := by
  rw [k1_rows_eq, inv_n, mass_real hx hmu hM hal, div_real _ (mass_pos (by norm_num) (expo_pos f M) hw r).ne', rows, Nat.cast_ofNat]

theorem k1_sum_eq (g : FVec Ideal S24x128 .f32) (a : FVec Ideal S448x24x128 .f32) (be : FVec Ideal S448 .f32)
    (p : FVec Ideal S24x128 .f32) (i : Fin 24) (l : Fin 128) :
    k1_pay1 (F := Ideal) g a be p (ix2 i l) = p (ix2 i l) + (∑ r : Fin 448, a (ix3 r i l) * be (ix1 r)) * g (ix2 i l) := by
  pointwise [k1_pay1]

/-- The weighted column sums after a block, over those before it. -/
theorem k1_sum_real (hx : Rows x f) (hmu : Lanes (k0_pay5 (F := Ideal) x m) mu) (hM : Lanes mx M) (hal : Lanes al (cut w))
    (hw : ∀ c, 0 < w c) (hp : Lanes p q) :
    Lanes (k1_pay1 (F := Ideal) (k1_pay6 (F := Ideal) (k0_pay8 (F := Ideal) x m) mx) (k1_pay7 (F := Ideal) (k0_pay7 (F := Ideal) x m)) (k1_pay8 (F := Ideal) (k0_pay8 (F := Ideal) x m) mx (k0_pay7 (F := Ideal) x m) al) p)
      fun c => q c + ∑ r ∈ range 448, expo f M r c * rows 6272 3000 (expo f M) w r := by
  intro i l
  rw [k1_sum_eq, hp, k1_scale_real hmu hM,
    sum_fin' 448 (fun r => Real.exp (20 * f r (128 * i.val + l.val) - mu (128 * i.val + l.val)) * rows 6272 3000 (expo f M) w r)
      fun r => by rw [k1_unpacked, k0_exp_real hx hmu, k1_rows_real hx hmu hM hal hw, ← EReal.coe_mul],
    ← EReal.coe_mul, ← EReal.coe_add, sum_mul]
  congr 2
  refine sum_congr rfl fun r _ => ?_
  rw [← expo_shift f mu M r (128 * i.val + l.val), expo]
  ring

theorem k1_start_sum : Lanes (k1_pay5 : FVec Ideal S24x128 .f32) fun _ => 0 := by
  intro i l
  pointwise [k1_pay5]
  rfl

theorem k1_kept (v : FVec Ideal S24x128 .f32) : k1_pay4 (F := Ideal) v = v := by
  funext j
  pointwise [k1_pay4]

theorem k1_next (v : FVec Ideal S24x128 .f32) : k1_pay3 (F := Ideal) v = k1_pay2 (F := Ideal) v := by
  funext j
  pointwise [k1_pay3]

end Cert.KernelIdeal.Lane
-- ==== Proof.Ideal.LossValue.lean ====
/-
  The third kernel's values over real numbers: one block's part of the loss.
-/
module

public import proofs.«01_k».proof.Proof.Ideal.SweepValue

@[expose] public section

set_option maxRecDepth 16384

noncomputable section

namespace Cert.KernelIdeal.Lane

open Cert.KernelIdeal Cert.KernelIdeal.Gen
open Idealize.ShloMosaic
open Cert.Reals Cert.Sinkhorn Finset

/-- A row's sum over the lanes. -/
def rowSum (v : FVec Ideal S448x24x128 .f32) : FVec Ideal S448 .f32 :=
  multiReduction .add [1, 2] S448 v 0x00000000#32 reduces_S448x24x128_S448 (.inl rfl) rfl

/-- A row's maximum over the lanes. -/
def rowMax (t : FVec Ideal S448x24x128 .f32) : FVec Ideal S448 .f32 :=
  multiReduction .maximumf [1, 2] S448 t 0xFF800000#32 reduces_S448x24x128_S448 (.inl rfl) rfl

/-- The exponentials of a block, each over its row's number `q`. -/
def rowExp (t : FVec Ideal S448x24x128 .f32) (q : FVec Ideal S448 .f32) : FVec Ideal S448x24x128 .f32 :=
  exp (subf t (broadcastTo S448x24x128 (shapeCast S448x1x1 q shapeCasts_S448_S448x1x1) broadcasts_S448x1x1_S448x24x128))

/-- The rows' losses: the weighted logits over the mass, less the logarithm of the summed exponentials. -/
def rowLoss (q : FVec Ideal S448 .f32) (t wt : FVec Ideal S448x24x128 .f32) : FVec Ideal S448 .f32 :=
  subf (divf (rowSum wt) q) (addf (rowMax t) (log (rowSum (rowExp t (rowMax t)))))

theorem rowSum_eq (v : FVec Ideal S448x24x128 .f32) (r : Fin 448) : rowSum v (ix1 r) = ∑ i, ∑ l, v (ix3 r i l) := by
  pointwise [rowSum]

theorem rowMax_eq (t : FVec Ideal S448x24x128 .f32) (r : Fin 448) :
    rowMax t (ix1 r) = Finset.univ.fold max (Ideal.ofBits .f32 0xFF800000#32) fun k : Fin 24 × Fin 128 => t (ix3 r k.1 k.2) := by
  pointwise [rowMax]

theorem rowExp_eq (t : FVec Ideal S448x24x128 .f32) (q : FVec Ideal S448 .f32) (r : Fin 448) (i : Fin 24) (l : Fin 128) :
    rowExp t q (ix3 r i l) = Ideal.exp (t (ix3 r i l) - q (ix1 r)) := by
  pointwise [rowExp]

theorem loss_at (a b u d : FVec Ideal S448 .f32) (r : Fin 448) :
    subf (divf a b) (addf u (log d)) (ix1 r) = Ideal.div (a (ix1 r)) (b (ix1 r)) - (u (ix1 r) + Ideal.log (d (ix1 r))) := by
  pointwise []

theorem rowLoss_eq (q : FVec Ideal S448 .f32) (t wt : FVec Ideal S448x24x128 .f32) (r : Fin 448) :
    rowLoss q t wt (ix1 r) = Ideal.div (rowSum wt (ix1 r)) (q (ix1 r))
      - (rowMax t (ix1 r) + Ideal.log (rowSum (rowExp t (rowMax t)) (ix1 r))) := by
  rw [rowLoss, loss_at]

theorem all_rows (v : FVec Ideal S448 .f32) :
    extractAt ![0, 0] (shapeCast S1x1 (multiReduction .add [1] S1 (shapeCast S1x448 v shapeCasts_S448_S1x448) 0x00000000#32
      reduces_S1x448_S1 (.inl rfl) rfl) shapeCasts_S1_S1x1) inpos_S1x1_p0_0 = ∑ r : Fin 448, v (ix1 r) := by
  pointwise []

theorem k2_total_eq (q : FVec Ideal S448 .f32) (t wt : FVec Ideal S448x24x128 .f32) (o : EReal) :
    k2_pay1 (F := Ideal) q t wt o = o + ∑ r : Fin 448, rowLoss q t wt (ix1 r) := by
  rw [← all_rows (rowLoss q t wt)]
  rfl

/-- The logits `y` on the prototypes; on the padding nothing. -/
def Logits (t : FVec Ideal S448x24x128 .f32) (y : ℕ → ℕ → ℝ) : Prop :=
  ∀ (r : Fin 448) (i : Fin 24) (l : Fin 128),
    t (ix3 r i l) = if 128 * i.val + l.val < 3000 then (y r.val (128 * i.val + l.val) : EReal) else ⊥

variable {t : FVec Ideal S448x24x128 .f32} {y : ℕ → ℕ → ℝ}

/-- A row's maximum is real. -/
theorem rowMax_real (ht : Logits t y) (r : Fin 448) : ∃ s : ℝ, rowMax t (ix1 r) = s := by
  rw [rowMax_eq, f32_bot]
  refine fold_max_univ ⊥ _ bot_ne_top (fun k => ?_) ((0 : Fin 24), (0 : Fin 128)) ?_
  · rw [ht]
    split
    · exact EReal.coe_ne_top _
    · exact bot_ne_top
  · rw [ht, if_pos (by norm_num)]
    exact EReal.coe_ne_bot _

/-- The logarithm of a row's summed exponentials, with the maximum taken off first and put back. -/
theorem rowLse_real (ht : Logits t y) (r : Fin 448) :
    rowMax t (ix1 r) + Ideal.log (rowSum (rowExp t (rowMax t)) (ix1 r)) = (Real.log (∑ c ∈ range 3000, Real.exp (y r c)) : EReal) := by
  obtain ⟨s, hs⟩ := rowMax_real ht r
  have h (i : Fin 24) (l : Fin 128) :
      rowExp t (rowMax t) (ix3 r i l) = (cut (fun c => Real.exp (y r c - s)) (128 * i.val + l.val) : EReal) := by
    rw [rowExp_eq, hs, ht, cut]
    split
    · rw [← EReal.coe_sub, Ideal.exp_coe]
    · rw [EReal.bot_sub, Ideal.exp_bot, EReal.coe_zero]
  rw [rowSum_eq, sum_of_lanes h (cut_zero _), sum_cut, hs, log_real (sum_pos_range (by norm_num) fun c => Real.exp_pos _), ← EReal.coe_add,
    log_shift (by norm_num)]

theorem k2_weighted_eq (mb : FVec Ideal S1x24x128 .f32) (mx : FVec Ideal S24x128 .f32) (a : FVec Ideal S224x48x128 .bf16)
    (al : FVec Ideal S24x128 .f32) (r : Fin 448) (i : Fin 24) (l : Fin 128) :
    k2_pay2 (F := Ideal) mb mx a al (ix3 r i l)
      = k1_pay7 (F := Ideal) a (ix3 r i l) * (k1_pay6 (F := Ideal) mb mx (ix2 i l) * al (ix2 i l)) := by
  rw [k1_unpacked_eq, k1_scale_eq]
  pointwise [k2_pay2]

theorem k2_mass_eq (mb : FVec Ideal S1x24x128 .f32) (mx : FVec Ideal S24x128 .f32) (a : FVec Ideal S224x48x128 .bf16)
    (al : FVec Ideal S24x128 .f32) (r : Fin 448) :
    k2_pay3 (F := Ideal) mb mx a al (ix1 r) = ∑ i, ∑ l, k2_pay2 (F := Ideal) mb mx a al (ix3 r i l) := by
  pointwise [k2_pay3]

theorem k2_logits_eq (s : FVec Ideal S448x24x128 .f32) (r : Fin 448) (i : Fin 24) (l : Fin 128) :
    k2_pay4 (F := Ideal) s (ix3 r i l)
      = Scalar.select (IntOp.cmpi .slt (IntOp.addi (IntOp.muli (BitVec.ofNat 32 i.val) 128#32) (BitVec.ofNat 32 l.val)) 3000#32)
          (s (ix3 r i l)) (Named.named κ "pad" 0xF149F2CA#32 : Ideal .f32) * Ideal.ofBits .f32 0x41200000#32 := by
  pointwise [k2_pay4]

theorem k2_product_eq (mb : FVec Ideal S1x24x128 .f32) (mx : FVec Ideal S24x128 .f32) (a : FVec Ideal S224x48x128 .bf16)
    (al : FVec Ideal S24x128 .f32) (s : FVec Ideal S448x24x128 .f32) (r : Fin 448) (i : Fin 24) (l : Fin 128) :
    k2_pay5 (F := Ideal) mb mx a al s (ix3 r i l) = k2_pay2 (F := Ideal) mb mx a al (ix3 r i l) * k2_pay4 (F := Ideal) s (ix3 r i l) := by
  pointwise [k2_pay5]

theorem pad : (Named.named κ "pad" 0xF149F2CA#32 : Ideal .f32) = ⊥ :=
  IdealRules.named_const.ideal_named_scalar _ _ _ _ rfl

/-- The logits of a block of scores. -/
theorem k2_logits_real {s : FVec Ideal S448x24x128 .f32} {g : ℕ → ℕ → ℝ} (hs : Rows s g) :
    Logits (k2_pay4 (F := Ideal) s) fun r c => 10 * g r c := by
  intro r i l
  rw [k2_logits_eq, mask, pad, f32_10, hs]
  split
  · rw [← EReal.coe_mul, mul_comm]
  · exact EReal.bot_mul_coe_of_pos (by norm_num)

variable {x s : FVec Ideal S448x24x128 .f32} {f g : ℕ → ℕ → ℝ} {m mx al : FVec Ideal S24x128 .f32} {mu M w : ℕ → ℝ}

/-- One row's loss. -/
theorem k2_row_real (hx : Rows x f) (hmu : Lanes (k0_pay5 (F := Ideal) x m) mu) (hM : Lanes mx M) (hal : Lanes al (cut w))
    (hw : ∀ c, 0 < w c) (hs : Rows s g) (r : Fin 448) :
    rowLoss (k2_pay3 (F := Ideal) (k0_pay8 (F := Ideal) x m) mx (k0_pay7 (F := Ideal) x m) al) (k2_pay4 (F := Ideal) s)
        (k2_pay5 (F := Ideal) (k0_pay8 (F := Ideal) x m) mx (k0_pay7 (F := Ideal) x m) al s) (ix1 r)
      = (((∑ c ∈ range 3000, expo f M r c * w c * (10 * g r c)) / mass 3000 (expo f M) w r
          - Real.log (∑ c ∈ range 3000, Real.exp (10 * g r c)) : ℝ) : EReal) := by
  have ht := k2_logits_real hs
  have h2 (i : Fin 24) (l : Fin 128) :
      k2_pay2 (F := Ideal) (k0_pay8 (F := Ideal) x m) mx (k0_pay7 (F := Ideal) x m) al (ix3 r i l) = (cut (fun c => expo f M r c * w c) (128 * i.val + l.val) : EReal) := by
    rw [k2_weighted_eq, entry_real hx hmu hM hal]
  have h5 (i : Fin 24) (l : Fin 128) :
      k2_pay5 (F := Ideal) (k0_pay8 (F := Ideal) x m) mx (k0_pay7 (F := Ideal) x m) al s (ix3 r i l)
        = (cut (fun c => expo f M r c * w c * (10 * g r c)) (128 * i.val + l.val) : EReal) := by
    rw [k2_product_eq, h2, ht, cut, cut]
    split
    · rw [← EReal.coe_mul]
    · rw [EReal.coe_zero, zero_mul]
  have hq : k2_pay3 (F := Ideal) (k0_pay8 (F := Ideal) x m) mx (k0_pay7 (F := Ideal) x m) al (ix1 r) = (mass 3000 (expo f M) w r : EReal) := by
    rw [k2_mass_eq, sum_of_lanes h2 (cut_zero _), sum_cut, mass]
  rw [rowLoss_eq, rowLse_real ht, rowSum_eq, sum_of_lanes h5 (cut_zero _), sum_cut, hq,
    div_real _ (mass_pos (by norm_num) (expo_pos f M) hw r).ne', ← EReal.coe_sub]

/-- The total after a block, over the total before it. -/
theorem k2_total_real (hx : Rows x f) (hmu : Lanes (k0_pay5 (F := Ideal) x m) mu) (hM : Lanes mx M) (hal : Lanes al (cut w))
    (hw : ∀ c, 0 < w c) (hs : Rows s g) {o : EReal} {z : ℝ} (ho : o = z) :
    k2_pay1 (F := Ideal) (k2_pay3 (F := Ideal) (k0_pay8 (F := Ideal) x m) mx (k0_pay7 (F := Ideal) x m) al) (k2_pay4 (F := Ideal) s) (k2_pay5 (F := Ideal) (k0_pay8 (F := Ideal) x m) mx (k0_pay7 (F := Ideal) x m) al s) o
      = ((z + ∑ r ∈ range 448, ((∑ c ∈ range 3000, expo f M r c * w c * (10 * g r c)) / mass 3000 (expo f M) w r
          - Real.log (∑ c ∈ range 3000, Real.exp (10 * g r c))) : ℝ) : EReal) := by
  rw [k2_total_eq, ho, sum_fin' 448
    (fun r => (∑ c ∈ range 3000, expo f M r c * w c * (10 * g r c)) / mass 3000 (expo f M) w r
          - Real.log (∑ c ∈ range 3000, Real.exp (10 * g r c))) (k2_row_real hx hmu hM hal hw hs), ← EReal.coe_add]

end Cert.KernelIdeal.Lane
-- ==== Proof.Ideal.Pass1Sums.lean ====
/-
  The first kernel's running arrays over real scores, block by block.
-/
module

public import proofs.«01_k».proof.Proof.Ideal.SweepValue
public import proofs.«01_k».proof.Proof.Ideal.Pass1Region

@[expose] public section

set_option maxRecDepth 16384

noncomputable section

namespace Cert.KernelIdeal.Pass1

open Cert.KernelIdeal Cert.KernelIdeal.Gen
open Idealize.ShloMosaic Idealize.ShloMosaic.TcCoe
open Cert.Reals Cert.Sinkhorn Cert.KernelIdeal.Lane Finset

variable (V : Dev nD → Valuation τ sig (Elt Ideal)) (c : Dev nD) {X : ℕ → ℕ → ℝ}

theorem state_max (t : Fin cfg0.N) : (state V c (t.val + 1)).1 = k0_pay5 (F := Ideal) (iblk V c 0 t) (state V c t.val).1 := by
  rw [state_succ]
  exact k0_max_kept _ _

theorem state_sum (t : Fin cfg0.N) :
    (state V c (t.val + 1)).2 = k0_pay9 (F := Ideal) (iblk V c 0 t) (state V c t.val).1 (state V c t.val).2 := by
  rw [state_succ]

/-- After block `t` the maxima are real numbers `mu`, and the sums those of the exponentials over them. -/
def After (X : ℕ → ℕ → ℝ) (t : ℕ) (mu : ℕ → ℝ) : Prop :=
  Lanes (state V c (t + 1)).1 mu ∧ Lanes (state V c (t + 1)).2 fun k => ∑ n ∈ range (448 * (t + 1)), expo X mu n k

theorem after_of (t : Fin cfg0.N) (hX : Rows (iblk V c 0 t) fun r k => X (448 * t.val + r) k)
    (hm : ∀ (i : Fin 24) (l : Fin 128), (state V c t.val).1 (ix2 i l) ≠ ⊤)
    (hp : ∀ mu : ℕ → ℝ, ∀ (i : Fin 24) (l : Fin 128),
      (state V c t.val).2 (ix2 i l) * Ideal.exp ((state V c t.val).1 (ix2 i l) - (mu (128 * i.val + l.val) : EReal))
        = ((∑ n ∈ range (448 * t.val), expo X mu n (128 * i.val + l.val) : ℝ) : EReal)) :
    ∃ mu, After V c X t.val mu := by
  obtain ⟨mu, hmu⟩ := k0_max_real hX hm
  refine ⟨mu, ?_, ?_⟩
  · rw [state_max]; exact hmu
  · rw [state_sum]
    have h := k0_sum_real hX hmu (q := fun k => ∑ n ∈ range (448 * t.val), expo X mu n k) (hp mu)
    intro i l
    rw [h i l]
    dsimp only
    rw [sum_rows]
    rfl

theorem after_real (hX : ∀ t : Fin cfg0.N, Rows (iblk V c 0 t) fun r k => X (448 * t.val + r) k) (t : ℕ) (ht : t < cfg0.N) :
    ∃ mu, After V c X t mu := by
  induction t with
  | zero =>
    refine after_of V c ⟨0, ht⟩ (hX _) (fun i l => ?_) fun mu i l => ?_
    · exact ((k0_start_max i l).trans_ne bot_ne_top)
    · refine (congrArg (· * _) (k0_start_sum i l)).trans ?_
      rw [zero_mul, mul_zero, range_zero, sum_empty, EReal.coe_zero]
  | succ t ih =>
    obtain ⟨nu, h1, h2⟩ := ih (by omega)
    refine after_of V c ⟨t + 1, ht⟩ (hX _) (fun i l => ?_) fun mu i l => ?_
    · rw [h1 i l]; exact EReal.coe_ne_top _
    · rw [h1 i l, h2 i l, ← EReal.coe_sub, Ideal.exp_coe, ← EReal.coe_mul, sum_mul]
      exact congrArg _ (sum_congr rfl fun n _ => expo_shift X nu mu n _)

end Cert.KernelIdeal.Pass1
-- ==== Proof.Ideal.Arrays.lean ====
/-
  What passes between the kernels: every block a later kernel stages is one an earlier kernel wrote back, and the result
  buffer holds the last kernel's running total.
-/
module

public import proofs.«01_k».proof.Proof.Ideal.Segments
public import Idealize.ShloMosaic.Lib.Pipeline.Value
public import Idealize.ShloMosaic.Lib.Pointwise

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.Sem
open Idealize.ShloMosaic.Pipeline (Dat)

variable {F : FTy → Type} [FloatOps F] [Named F]

variable (m : (ℓ : Loc nD τ sig) → Buf (Elt F) ℓ) (c : Dev nD)

/-- The block of the first kernel a point of the second works on. -/
abbrev src1 (t : Fin cfg1.N) : Fin cfg0.N := ⟨t.val % 14, lt_of_lt_of_eq (Nat.mod_lt _ (by norm_num)) N_0.symm⟩

/-- The block of the first kernel a point of the third works on. -/
abbrev src2 (t : Fin cfg2.N) : Fin cfg0.N := ⟨t.val, lt_of_lt_of_eq t.isLt (N_2.trans N_0.symm)⟩

/-- The last point of the first kernel, and of the second. -/
abbrev last0 : Fin cfg0.N := ⟨13, lt_of_lt_of_eq (by norm_num) N_0.symm⟩
abbrev last1 : Fin cfg1.N := ⟨27, lt_of_lt_of_eq (by norm_num) N_1.symm⟩

theorem apart0_1 : ∀ t t' : Fin cfg0.N, t ≠ t' → (cfg0.win 1).index t ≠ (cfg0.win 1).index t' := by decide +kernel
theorem apart0_2 : ∀ t t' : Fin cfg0.N, t ≠ t' → (cfg0.win 2).index t ≠ (cfg0.win 2).index t' := by decide +kernel
theorem flush0_1 : ∀ t : Fin cfg0.N, (cfg0.win 1).flush t = true := by decide +kernel
theorem flush0_2 : ∀ t : Fin cfg0.N, (cfg0.win 2).flush t = true := by decide +kernel
theorem flush0_3 : ∀ t : Fin cfg0.N, (cfg0.win 3).flush t = true → t = last0 := by decide +kernel
theorem flush0_4 : ∀ t : Fin cfg0.N, (cfg0.win 4).flush t = true → t = last0 := by decide +kernel
theorem flush1_4 : ∀ t : Fin cfg1.N, (cfg1.win 4).flush t = true → t = last1 := by decide +kernel

/-- The packed exponentials the first kernel wrote for a block, read back from the array. -/
theorem out0_1 (t : Fin cfg0.N) :
    ((cfg0.win 1).blk t).view.read (Elt F) (X4 m c main_v4_0) = k0_pay7 (Pass1.iblk (X3 m) c 0 t) (Pass1.state (X3 m) c t.val).1 := by
  have h := (Pass1.dat (X3 m) c).read_blk_arrAt_eq_flushed 1
    (fun t t' _ _ hne => Pipeline.Window.disjoint_blk _ (apart0_1 t t' hne)) cfg0.N t t.isLt (flush0_1 t)
  rw [← Pipeline.afterRegion_arr (Pass1.dat (X3 m) c) (X3 m c) winFacts0.arr_inj 1] at h
  exact h.trans (Pass1.after_1 (X3 m) c t)

/-- The running maxima the first kernel wrote for a block. -/
theorem out0_2 (t : Fin cfg0.N) :
    ((cfg0.win 2).blk t).view.read (Elt F) (X4 m c main_v4_1) = k0_pay8 (Pass1.iblk (X3 m) c 0 t) (Pass1.state (X3 m) c t.val).1 := by
  have h := (Pass1.dat (X3 m) c).read_blk_arrAt_eq_flushed 2
    (fun t t' _ _ hne => Pipeline.Window.disjoint_blk _ (apart0_2 t t' hne)) cfg0.N t t.isLt (flush0_2 t)
  rw [← Pipeline.afterRegion_arr (Pass1.dat (X3 m) c) (X3 m c) winFacts0.arr_inj 2] at h
  exact h.trans (Pass1.after_2 (X3 m) c t)

/-- The final maxima, written at the first kernel's last point, -/
theorem out0_3 : ((cfg0.win 3).blk last0).view.read (Elt F) (X4 m c main_v4_2) = (Pass1.state (X3 m) c 14).1 := by
  have h := (Pass1.dat (X3 m) c).read_blk_arrAt_eq_flushed 3
    (fun t t' ht ht' hne => absurd ((flush0_3 t ht).trans (flush0_3 t' ht').symm) hne) cfg0.N last0 last0.isLt (by decide +kernel)
  rw [← Pipeline.afterRegion_arr (Pass1.dat (X3 m) c) (X3 m c) winFacts0.arr_inj 3] at h
  exact h.trans (Pass1.after_3 (X3 m) c last0)

/-- and the first column weights, -/
theorem out0_4 : ((cfg0.win 4).blk last0).view.read (Elt F) (X4 m c main_v4_3) = k0_pay1 (Pass1.state (X3 m) c 14).2 := by
  have h := (Pass1.dat (X3 m) c).read_blk_arrAt_eq_flushed 4
    (fun t t' ht ht' hne => absurd ((flush0_4 t ht).trans (flush0_4 t' ht').symm) hne) cfg0.N last0 last0.isLt (by decide +kernel)
  rw [← Pipeline.afterRegion_arr (Pass1.dat (X3 m) c) (X3 m c) winFacts0.arr_inj 4] at h
  exact h.trans (Pass1.after_4 (X3 m) c last0)

/-- and the last ones, written at the second kernel's last point. -/
theorem out1_4 : ((cfg1.win 4).blk last1).view.read (Elt F) (X5 m c main_v5) = k1_pay2 (Sweep.state (X4 m) c 28).1 := by
  have h := (Sweep.dat (X4 m) c).read_blk_arrAt_eq_flushed 4
    (fun t t' ht ht' hne => absurd ((flush1_4 t ht).trans (flush1_4 t' ht').symm) hne) cfg1.N last1 last1.isLt (by decide +kernel)
  rw [← Pipeline.afterRegion_arr (Sweep.dat (X4 m) c) (X4 m c) winFacts1.arr_inj 4] at h
  exact h.trans (Sweep.after_4 (X4 m) c last1)

/-! ## The blocks the second kernel stages -/

theorem index1_0 : ∀ (t : Fin cfg1.N) (a : Fin 3), (cfg1.win 0).index t a = (cfg0.win 1).index (src1 t) a := by decide +kernel
theorem index1_1 : ∀ (t : Fin cfg1.N) (a : Fin 3), (cfg1.win 1).index t a = (cfg0.win 2).index (src1 t) a := by decide +kernel
theorem index1_2 : ∀ (t : Fin cfg1.N) (a : Fin 2), (cfg1.win 2).index t a = (cfg0.win 3).index last0 a := by decide +kernel
theorem index1_3 : ∀ (t : Fin cfg1.N) (a : Fin 2), (cfg1.win 3).index t a = (cfg0.win 4).index last0 a := by decide +kernel

theorem sweep_0 (t : Fin cfg1.N) :
    Sweep.iblk (X4 m) c 0 t = k0_pay7 (Pass1.iblk (X3 m) c 0 (src1 t)) (Pass1.state (X3 m) c (src1 t).val).1 := by
  rw [← out0_1 m c (src1 t)]
  funext y
  refine congrArg (X4 m c main_v4_0) (funext fun a => Fin.ext ?_)
  exact ((cfg1.win 0).rect_emb_val t y a).trans
    ((congrArg (· * _ + _) (index1_0 t a)).trans ((cfg0.win 1).rect_emb_val (src1 t) y a).symm)

theorem sweep_1 (t : Fin cfg1.N) :
    Sweep.iblk (X4 m) c 1 t = k0_pay8 (Pass1.iblk (X3 m) c 0 (src1 t)) (Pass1.state (X3 m) c (src1 t).val).1 := by
  rw [← out0_2 m c (src1 t)]
  funext y
  refine congrArg (X4 m c main_v4_1) (funext fun a => Fin.ext ?_)
  exact ((cfg1.win 1).rect_emb_val t y a).trans
    ((congrArg (· * _ + _) (index1_1 t a)).trans ((cfg0.win 2).rect_emb_val (src1 t) y a).symm)

theorem sweep_2 (t : Fin cfg1.N) : Sweep.iblk (X4 m) c 2 t = (Pass1.state (X3 m) c 14).1 := by
  rw [← out0_3 m c]
  funext y
  refine congrArg (X4 m c main_v4_2) (funext fun a => Fin.ext ?_)
  exact ((cfg1.win 2).rect_emb_val t y a).trans
    ((congrArg (· * _ + _) (index1_2 t a)).trans ((cfg0.win 3).rect_emb_val last0 y a).symm)

theorem sweep_3 (t : Fin cfg1.N) : Sweep.iblk (X4 m) c 3 t = k0_pay1 (Pass1.state (X3 m) c 14).2 := by
  rw [← out0_4 m c]
  funext y
  refine congrArg (X4 m c main_v4_3) (funext fun a => Fin.ext ?_)
  exact ((cfg1.win 3).rect_emb_val t y a).trans
    ((congrArg (· * _ + _) (index1_3 t a)).trans ((cfg0.win 4).rect_emb_val last0 y a).symm)

/-! ## The blocks the third kernel stages -/

theorem index2_0 : ∀ (t : Fin cfg2.N) (a : Fin 3), (cfg2.win 0).index t a = (cfg0.win 1).index (src2 t) a := by decide +kernel
theorem index2_2 : ∀ (t : Fin cfg2.N) (a : Fin 3), (cfg2.win 2).index t a = (cfg0.win 2).index (src2 t) a := by decide +kernel
theorem index2_3 : ∀ (t : Fin cfg2.N) (a : Fin 2), (cfg2.win 3).index t a = (cfg0.win 3).index last0 a := by decide +kernel
theorem index2_4 : ∀ (t : Fin cfg2.N) (a : Fin 2), (cfg2.win 4).index t a = (cfg1.win 4).index last1 a := by decide +kernel

theorem loss_0 (t : Fin cfg2.N) :
    Loss.iblk (X5 m) c 0 t = k0_pay7 (Pass1.iblk (X3 m) c 0 (src2 t)) (Pass1.state (X3 m) c (src2 t).val).1 := by
  rw [← out0_1 m c (src2 t), ← X5_keeps m c main_v4_0 (by decide)]
  funext y
  refine congrArg (X5 m c main_v4_0) (funext fun a => Fin.ext ?_)
  exact ((cfg2.win 0).rect_emb_val t y a).trans
    ((congrArg (· * _ + _) (index2_0 t a)).trans ((cfg0.win 1).rect_emb_val (src2 t) y a).symm)

theorem loss_2 (t : Fin cfg2.N) :
    Loss.iblk (X5 m) c 2 t = k0_pay8 (Pass1.iblk (X3 m) c 0 (src2 t)) (Pass1.state (X3 m) c (src2 t).val).1 := by
  rw [← out0_2 m c (src2 t), ← X5_keeps m c main_v4_1 (by decide)]
  funext y
  refine congrArg (X5 m c main_v4_1) (funext fun a => Fin.ext ?_)
  exact ((cfg2.win 2).rect_emb_val t y a).trans
    ((congrArg (· * _ + _) (index2_2 t a)).trans ((cfg0.win 2).rect_emb_val (src2 t) y a).symm)

theorem loss_3 (t : Fin cfg2.N) : Loss.iblk (X5 m) c 3 t = (Pass1.state (X3 m) c 14).1 := by
  rw [← out0_3 m c, ← X5_keeps m c main_v4_2 (by decide)]
  funext y
  refine congrArg (X5 m c main_v4_2) (funext fun a => Fin.ext ?_)
  exact ((cfg2.win 3).rect_emb_val t y a).trans
    ((congrArg (· * _ + _) (index2_3 t a)).trans ((cfg0.win 3).rect_emb_val last0 y a).symm)

theorem loss_4 (t : Fin cfg2.N) : Loss.iblk (X5 m) c 4 t = k1_pay2 (Sweep.state (X4 m) c 28).1 := by
  rw [← out1_4 m c]
  funext y
  refine congrArg (X5 m c main_v5) (funext fun a => Fin.ext ?_)
  exact ((cfg2.win 4).rect_emb_val t y a).trans
    ((congrArg (· * _ + _) (index2_4 t a)).trans ((cfg1.win 4).rect_emb_val last1 y a).symm)

/-! ## The score blocks, and the result -/

theorem index0_0 : ∀ t : Fin cfg0.N, (cfg0.win 0).index t 0 = t.val ∧ (cfg0.win 0).index t 1 = 0 ∧ (cfg0.win 0).index t 2 = 0 := by
  decide +kernel
theorem index2_1 : ∀ t : Fin cfg2.N, (cfg2.win 1).index t 0 = t.val + 14 ∧ (cfg2.win 1).index t 1 = 0 ∧ (cfg2.win 1).index t 2 = 0 := by
  decide +kernel

/-- A block of the first set of scores, by its place in the padded array. -/
theorem scores_0 (V : Dev nD → Valuation τ sig (Elt F)) (t : Fin cfg0.N) (r : Fin 448) (i : Fin 24) (l : Fin 128)
    (h : 448 * t.val + r.val < 12544) :
    (Pass1.iblk V c 0 t : Vec F S448x24x128 .f32) (ix3 r i l) = (V c main_v3 : Vec F S12544x24x128 .f32) (ix3 ⟨448 * t.val + r.val, h⟩ i l) := by
  obtain ⟨h0, h1, h2⟩ := index0_0 t
  refine congrArg (V c main_v3 : Vec F S12544x24x128 .f32) (funext fun a => Fin.ext ?_)
  refine ((cfg0.win 0).rect_emb_val t _ a).trans ?_
  match a with
  | ⟨0, _⟩ => show (cfg0.win 0).index t 0 * 448 + r.val = 448 * t.val + r.val; rw [h0]; omega
  | ⟨1, _⟩ => show (cfg0.win 0).index t 1 * 24 + i.val = i.val; rw [h1]; omega
  | ⟨2, _⟩ => show (cfg0.win 0).index t 2 * 128 + l.val = l.val; rw [h2]; omega

/-- A block of the second set of scores, by its place in the padded array. -/
theorem scores_1 (t : Fin cfg2.N) (r : Fin 448) (i : Fin 24) (l : Fin 128) (h : 6272 + (448 * t.val + r.val) < 12544) :
    (Loss.iblk (X5 m) c 1 t : Vec F S448x24x128 .f32) (ix3 r i l)
      = (X3 m c main_v3 : Vec F S12544x24x128 .f32) (ix3 ⟨6272 + (448 * t.val + r.val), h⟩ i l) := by
  obtain ⟨h0, h1, h2⟩ := index2_1 t
  rw [← X4_keeps m c main_v3 (by decide), ← X5_keeps m c main_v3 (by decide)]
  refine congrArg (X5 m c main_v3 : Vec F S12544x24x128 .f32) (funext fun a => Fin.ext ?_)
  refine ((cfg2.win 1).rect_emb_val t _ a).trans ?_
  match a with
  | ⟨0, _⟩ => show (cfg2.win 1).index t 0 * 448 + r.val = 6272 + (448 * t.val + r.val); rw [h0]; omega
  | ⟨1, _⟩ => show (cfg2.win 1).index t 1 * 24 + i.val = i.val; rw [h1]; omega
  | ⟨2, _⟩ => show (cfg2.win 1).index t 2 * 128 + l.val = l.val; rw [h2]; omega

/-- The last point of the third kernel. -/
abbrev last2 : Fin cfg2.N := ⟨13, lt_of_lt_of_eq (by norm_num) N_2.symm⟩
theorem flush2_5 : ∀ t : Fin cfg2.N, (cfg2.win 5).flush t = true → t = last2 := by decide +kernel
theorem index2_5 : ∀ a : Fin 2, (cfg2.win 5).index last2 a = 0 := by decide +kernel

/-- The result buffer holds the running total after the last block. -/
theorem result_total : (X6 m c main_v6 : Vec F S1x1 .f32) (ix2 0 0) = Loss.total (X5 m) c 14 := by
  have h := (Loss.dat (X5 m) c).read_blk_arrAt_eq_flushed 5
    (fun t t' ht ht' hne => absurd ((flush2_5 t ht).trans (flush2_5 t' ht').symm) hne) cfg2.N last2 last2.isLt (by decide +kernel)
  rw [← Pipeline.afterRegion_arr (Loss.dat (X5 m) c) (X5 m c) winFacts2.arr_inj 5] at h
  have h' := h.trans (Loss.after_5 (X5 m) c last2)
  refine Eq.trans ?_ (congrFun h' (ix2 0 0))
  refine congrArg (X6 m c main_v6 : Vec F S1x1 .f32) (funext fun a => Fin.ext ?_)
  exact (((cfg2.win 5).rect_emb_val_of_index_zero last2 a (index2_5 a) _).trans (by
    match a with
    | ⟨0, _⟩ => rfl
    | ⟨1, _⟩ => rfl)).symm

end Cert.KernelIdeal.Whole
-- ==== Proof.Ideal.SweepSums.lean ====
/-
  The second and third kernels' running arrays over real scores: the column weights after each sweep, and the loss.
-/
module

public import proofs.«01_k».proof.Proof.Ideal.LossValue
public import proofs.«01_k».proof.Proof.Ideal.Pass1Sums
public import proofs.«01_k».proof.Proof.Ideal.Arrays

@[expose] public section

set_option maxRecDepth 16384

noncomputable section

namespace Cert.KernelIdeal.Whole

open Cert.KernelIdeal Cert.KernelIdeal.Gen
open Idealize.ShloMosaic Idealize.ShloMosaic.TcCoe
open Cert.Reals Cert.Sinkhorn Cert.KernelIdeal.Lane Finset

variable (m : (ℓ : Loc nD τ sig) → Buf (Elt Ideal) ℓ) (c : Dev nD) {X Y : ℕ → ℕ → ℝ} {mu : ℕ → ℕ → ℝ}

/-- The column weights after `s` sweeps. -/
abbrev wt (X : ℕ → ℕ → ℝ) (M : ℕ → ℝ) (s : ℕ) : ℕ → ℝ := weight 6272 3000 (expo X M) s

theorem wt_pos (X : ℕ → ℕ → ℝ) (M : ℕ → ℝ) (s k : ℕ) : 0 < wt X M s k :=
  weight_pos (by norm_num) (by norm_num) (expo_pos X M) s k

/-- The weighted column sums of sweep `s` after `j` blocks. -/
def sums (X : ℕ → ℕ → ℝ) (M : ℕ → ℝ) (s j k : ℕ) : ℝ :=
  ∑ n ∈ range (448 * j), expo X M n k * rows 6272 3000 (expo X M) (wt X M s) n

/-- What the first kernel leaves over real scores `X`. -/
def Ready (X : ℕ → ℕ → ℝ) (mu : ℕ → ℕ → ℝ) : Prop :=
  ∀ t : Fin cfg0.N, (Rows (Pass1.iblk (X3 m) c 0 t) fun r k => X (448 * t.val + r) k) ∧ Pass1.After (X3 m) c X t.val (mu t.val)

variable {m c} (h : Ready m c X mu)

include h

theorem ready_max (t : Fin cfg0.N) : Lanes (k0_pay5 (F := Ideal) (Pass1.iblk (X3 m) c 0 t) (Pass1.state (X3 m) c t.val).1) (mu t.val) := by
  have h1 := (h t).2.1
  rwa [Pass1.state_max] at h1

theorem ready_last : Lanes (Pass1.state (X3 m) c 14).1 (mu 13) := (h last0).2.1

/-- The first column weights. -/
theorem first_weights : Lanes (k0_pay1 (F := Ideal) (Pass1.state (X3 m) c 14).2) (Lane.cut (wt X (mu 13) 0)) := by
  have h2 := (h last0).2.2
  refine k0_weights_real h2 (fun k => (sum_pos_range (by norm_num) fun n => expo_pos _ _ n k).ne') fun k => ?_
  unfold wt weight cols
  simp only [mul_one, Nat.cast_ofNat]

theorem acc_step (t : Fin cfg1.N) {al p : FVec Ideal S24x128 .f32} {s : ℕ} (hal : Lanes al (Lane.cut (wt X (mu 13) s)))
    (hp : Lanes p (sums X (mu 13) s (t.val % 14))) :
    Lanes (Sweep.acc (F := Ideal) (Sweep.iblk (X4 m) c 0 t) (Sweep.iblk (X4 m) c 1 t) (Sweep.iblk (X4 m) c 2 t) al p)
      (sums X (mu 13) s (t.val % 14 + 1)) := by
  rw [sweep_0, sweep_1, sweep_2, Sweep.acc]
  have hk := k1_sum_real (h (src1 t)).1 (ready_max h (src1 t)) (ready_last h) hal (wt_pos X (mu 13) s) hp
  intro i l
  rw [hk i l]
  dsimp only
  unfold sums
  rw [sum_rows]
  rfl

omit h in
theorem sums_zero (s j : ℕ) (hj : j = 0) : Lanes (k1_pay5 : FVec Ideal S24x128 .f32) (sums X (mu 13) s j) := by
  subst hj
  intro i l
  rw [k1_start_sum i l, sums, mul_zero, range_zero, sum_empty]

omit h in
theorem next_weights {p : FVec Ideal S24x128 .f32} {s : ℕ} (hp : Lanes p (sums X (mu 13) s 14)) :
    Lanes (k1_pay2 (F := Ideal) p) (Lane.cut (wt X (mu 13) (s + 1))) := by
  refine k1_weights_real hp (fun k => (sum_pos_range (by norm_num) fun n => mul_pos (expo_pos _ _ n k) ?_).ne') fun k => ?_
  · exact rows_pos (by norm_num) (by norm_num) (expo_pos _ _) (wt_pos X (mu 13) s) n
  · unfold wt weight cols
    rw [Nat.cast_ofNat]
    rfl

/-- The sums and the column weights after a point of the sweeps. -/
theorem sweep_real (n : ℕ) (hn : n < cfg1.N) :
    Lanes (Sweep.state (X4 m) c (n + 1)).1 (sums X (mu 13) (n / 14) (n % 14 + 1))
      ∧ Lanes (Sweep.state (X4 m) c (n + 1)).2 (Lane.cut (wt X (mu 13) ((n + 1) / 14))) := by
  induction n with
  | zero =>
    have hs := Sweep.state_succ (X4 m) c ⟨0, hn⟩
    rw [sweep_3, Sweep.point, if_pos rfl, k1_kept] at hs
    have ha := first_weights h
    refine ⟨?_, ?_⟩
    · rw [hs]; exact acc_step h ⟨0, hn⟩ ha (sums_zero 0 _ rfl)
    · rw [hs]; exact ha
  | succ n ih =>
    obtain ⟨hp, hal⟩ := ih (by omega)
    have hs := Sweep.state_succ (X4 m) c ⟨n + 1, hn⟩
    have hN : n + 1 < 28 := lt_of_lt_of_eq hn N_1
    rw [Sweep.point, if_neg (by simp)] at hs
    by_cases h14 : n + 1 = 14
    · rw [if_pos h14] at hs
      obtain rfl : n = 13 := by omega
      exact ⟨by rw [hs]; exact acc_step h ⟨14, hn⟩ (s := 1) hal (sums_zero 1 _ (Nat.mod_self 14)), by rw [hs]; exact hal⟩
    · rw [if_neg h14] at hs
      have h1 : (n + 1) / 14 = n / 14 := by omega
      have h2 : (n + 1) % 14 = n % 14 + 1 := by omega
      rw [h1] at hal
      have hacc := acc_step h ⟨n + 1, hn⟩ (s := n / 14) hal (by rw [h2]; exact hp)
      by_cases h13 : (n + 1) % 14 = 13
      · rw [if_pos h13] at hs
        refine ⟨?_, ?_⟩
        · rw [hs, h1]; exact hacc
        · have h3 : (n + 1 + 1) / 14 = n / 14 + 1 := by omega
          rw [hs, h3, k1_next]
          exact next_weights (by dsimp only at hacc; rw [h13] at hacc; exact hacc)
      · rw [if_neg h13] at hs
        have h3 : (n + 1 + 1) / 14 = n / 14 := by omega
        refine ⟨?_, ?_⟩
        · rw [hs, h1]; exact hacc
        · rw [hs, h3]; exact hal

/-- The column weights the second kernel leaves. -/
theorem last_weights : Lanes (k1_pay2 (F := Ideal) (Sweep.state (X4 m) c 28).1) (Lane.cut (wt X (mu 13) 2)) :=
  next_weights (sweep_real h 27 last1.isLt).1

/-- One row's loss under the final column weights. -/
def rowTerm (X Y : ℕ → ℕ → ℝ) (M : ℕ → ℝ) (n : ℕ) : ℝ :=
  (∑ k ∈ range 3000, expo X M n k * wt X M 2 k * (10 * Y n k)) / mass 3000 (expo X M) (wt X M 2) n
    - Real.log (∑ k ∈ range 3000, Real.exp (10 * Y n k))

theorem loss_step (t : Fin cfg2.N) (hY : Rows (Loss.iblk (X5 m) c 1 t) fun r k => Y (448 * t.val + r) k) {o : EReal} {z : ℝ} (ho : o = z) :
    Loss.step (F := Ideal) (Loss.iblk (X5 m) c 0 t) (Loss.iblk (X5 m) c 1 t) (Loss.iblk (X5 m) c 2 t) (Loss.iblk (X5 m) c 3 t)
        (Loss.iblk (X5 m) c 4 t) o
      = ((z + ∑ r ∈ range 448, rowTerm X Y (mu 13) (448 * t.val + r) : ℝ) : EReal) := by
  rw [loss_0, loss_2, loss_3, loss_4, Loss.step]
  exact k2_total_real (h (src2 t)).1 (ready_max h (src2 t)) (ready_last h) (last_weights h) (wt_pos X (mu 13) 2) hY ho

theorem loss_real (hY : ∀ t : Fin cfg2.N, Rows (Loss.iblk (X5 m) c 1 t) fun r k => Y (448 * t.val + r) k) (n : ℕ) (hn : n ≤ cfg2.N) :
    Loss.total (X5 m) c n = ((∑ i ∈ range (448 * n), rowTerm X Y (mu 13) i : ℝ) : EReal) := by
  induction n with
  | zero =>
    rw [Loss.total, mul_zero, range_zero, sum_empty, EReal.coe_zero]
    exact Ideal.ofBits_zero .f32
  | succ n ih =>
    refine (Loss.total_succ (X5 m) c ⟨n, hn⟩).trans ?_
    rw [loss_step h ⟨n, hn⟩ (hY _) (ih (by omega)), sum_rows]

/-- The total the third kernel leaves. -/
theorem total_real (hY : ∀ t : Fin cfg2.N, Rows (Loss.iblk (X5 m) c 1 t) fun r k => Y (448 * t.val + r) k) :
    Loss.total (X5 m) c 14 = (loss 6272 3000 (expo X (mu 13)) (fun n k => 10 * Y n k) (wt X (mu 13) 2) : EReal) :=
  loss_real h hY 14 (le_of_eq N_2.symm)

end Cert.KernelIdeal.Whole
-- ==== Proof.Ideal.Host.lean ====
/-
  The host's part of the kernel program: the padded scores the kernels read, and the mean taken of their total.
-/
module

public import proofs.«01_k».proof.Proof.Ideal.Segments
public import proofs.«01_k».proof.Proof.Reals
public import proofs.«01_k».proof.Proof.Score
public import Idealize.ShloMosaic.Lib.Pointwise
public import Idealize.ShloMosaic.Lib.StableHlo.Run

@[expose] public section

set_option maxRecDepth 16384

noncomputable section

namespace Cert.KernelIdeal.Whole

open Cert.KernelIdeal Cert.KernelIdeal.Gen
open Idealize.ShloMosaic Idealize.ShloMosaic.TcCoe
open Cert.Reals Cert.Score

variable {F : FTy → Type} [FloatOps F] [Named F]

/-- The scores padded along the prototypes and laid out in rows of 24 by 128. -/
def padded (x : FVec F S2x32x196x3000 .f32) : FVec F S12544x24x128 .f32 :=
  shapeCast S12544x24x128
    (shapeCast S2x32x196x24x128
      (pad S2x32x196x3072 ![0, 0, 0, 0] ![0, 0, 0, 72] ![0, 0, 0, 0] x (constant S_ .f32 0xF149F2CA#32)
        pads_S2x32x196x3000_S2x32x196x3072_000_000_000_0720 h_S_)
      shapeCasts_S2x32x196x3072_S2x32x196x24x128)
    shapeCasts_S2x32x196x24x128_S12544x24x128

theorem host0 (V : Valuation τ sig (Elt F)) :
    StableHlo.after hostOps0_2 (StableHlo.after hostOps0_1 (StableHlo.after hostOps0 V)) main_v3 = padded (V main_arg1) := by
  after_results
  unfold padded
  refine congrArg (fun y => shapeCast S12544x24x128 y shapeCasts_S2x32x196x24x128_S12544x24x128) ?_
  rw [id_eq]
  refine congrArg (fun y => shapeCast S2x32x196x24x128 y shapeCasts_S2x32x196x3072_S2x32x196x24x128) ?_
  refine congrArg₂ (fun (y : FVec F S2x32x196x3000 .f32) (z : FVec F S_ .f32) => pad S2x32x196x3072 ![0, 0, 0, 0] ![0, 0, 0, 72] ![0, 0, 0, 0] y z
    pads_S2x32x196x3000_S2x32x196x3072_000_000_000_0720 h_S_) ?_ ?_ <;> rfl

/-- The loss of a total: its negated mean over the rows. -/
def mean (t : FVec F S1x1 .f32) : FVec F S_ .f32 :=
  mulf (constant S_ .f32 0x3F800000#32)
    (Host.divf (subf (constant S_ .f32 0x00000000#32) (Host.divf (shapeCast S_ t shapeCasts_S1x1_S_) (constant S_ .f32 0x45C40000#32)))
      (constant S_ .f32 0x3F800000#32))

theorem host3 (V : Valuation τ sig (Elt F)) : StableHlo.after hostOps3 V main_v11 = mean (V main_v6) := by
  after_results
  rfl

/-- The mean of a real total. -/
theorem mean_real (t : FVec Ideal S1x1 .f32) (r : ℝ) (h : t (ix2 0 0) = r) : mean t ix0 = ((-(r / 6272) : ℝ) : EReal) := by
  pointwise [mean]
  rw [h, f32_6272, div_real _ (by norm_num), zero_sub, ← EReal.coe_neg, ← EReal.coe_one, div_real _ one_ne_zero, div_one]

/-- The scores at their four coordinates. -/
def scores (x : FVec Ideal S2x32x196x3000 .f32) : Fin 2 → Fin 32 → Fin 196 → Fin 3000 → EReal :=
  fun g b p c => x (ix4 g b p c)

theorem scores_at (x : FVec Ideal S2x32x196x3000 .f32) {a a' : Fin 2} {b b' : Fin 32} {p p' : Fin 196} {c c' : Fin 3000}
    (ha : a.val = a'.val) (hb : b.val = b'.val) (hp : p.val = p'.val) (hc : c.val = c'.val) :
    x (ix4 a b p c) = scores x a' b' p' c' := by
  rw [Fin.ext ha, Fin.ext hb, Fin.ext hp, Fin.ext hc, scores]

/-- The padded array at a row of a set and a lane. -/
theorem padded_real {x : FVec Ideal S2x32x196x3000 .f32} (hx : Real4 (scores x)) {r : ℝ}
    (hr : Ideal.ofBits .f32 0xF149F2CA#32 = (r : EReal)) (g : ℕ) (hg : g < 2) (n : ℕ) (hn : n < 6272) (i : Fin 24) (l : Fin 128)
    (h : 6272 * g + n < 12544) :
    padded x (ix3 ⟨6272 * g + n, h⟩ i l) = (score (scores x) r g n (128 * i.val + l.val) : EReal) := by
  pointwise [padded]
  have hi : i.val * 128 + l.val = 128 * i.val + l.val := by omega
  have hl := l.isLt
  by_cases hc : i.val * 128 + l.val < 3000
  · rw [dif_pos ⟨by omega, by omega, by omega, hc⟩]
    exact ((scores_at x (a' := ⟨g, hg⟩) (b' := ⟨n / 196, by omega⟩) (p' := ⟨n % 196, by omega⟩) (c' := ⟨_, hc⟩)
      (by dsimp only; omega) (by dsimp only; omega) (by dsimp only; omega) rfl).trans
      (score_of hx r ⟨g, hg⟩ ⟨n, hn⟩ ⟨_, hc⟩ _ _)).trans
      (congrArg (fun k => ((score (scores x) r g n k : ℝ) : EReal)) hi)
  · rw [dif_neg (fun h => hc h.2.2.2)]
    have hs := score_pad (f := scores x) r g n (128 * i.val + l.val) (by omega)
    rw [hs]
    exact hr

end Cert.KernelIdeal.Whole
-- ==== Proof.Ideal.Value.lean ====
/-
  What the ideal kernel program leaves in its result, for real scores: the negated mean of the loss that the column
  weights give, the exponents of each column taken over one number the first kernel settles.
-/
module

public import proofs.«01_k».proof.Proof.Ideal.SweepSums
public import proofs.«01_k».proof.Proof.Ideal.Host

@[expose] public section

set_option maxRecDepth 16384

noncomputable section

namespace Cert.KernelIdeal.Whole

open Cert.KernelIdeal Cert.KernelIdeal.Gen
open Idealize.ShloMosaic Idealize.ShloMosaic.TcCoe
open Cert.Reals Cert.Score Cert.Sinkhorn Cert.KernelIdeal.Lane

variable (m : (ℓ : Loc nD τ sig) → Buf (Elt Ideal) ℓ) (c : Dev nD)

/-- The scores the program is launched on. -/
def input : FVec Ideal S2x32x196x3000 .f32 := V0 m c main_arg1

/-- The array the kernels read is the padded scores. -/
theorem input_padded : (X3 m c main_v3 : FVec Ideal S12544x24x128 .f32) = padded (input m c) := host0 (V0 m c)

/-- The result is the mean of what the loss kernel leaves. -/
theorem result_mean : (X7 m c main_v11 : FVec Ideal S_ .f32) = mean (F := Ideal) (X6 m c main_v6) := host3 (X6 m c)

variable {m c} {pad : ℝ} (hx : Real4 (scores (input m c))) (hpad : Ideal.ofBits .f32 0xF149F2CA#32 = (pad : EReal))

include hx hpad

/-- The blocks of the first set of scores, as rows of reals. -/
theorem first_scores (t : Fin cfg0.N) :
    Rows (Pass1.iblk (X3 m) c 0 t) fun r k => score (scores (input m c)) pad 0 (448 * t.val + r) k := by
  intro r i l
  have ht : t.val < 14 := lt_of_lt_of_eq t.isLt N_0
  have hr := r.isLt
  have h : 448 * t.val + r.val < 12544 := by omega
  refine (scores_0 c (X3 m) t r i l h).trans ((congrFun (input_padded m c) _).trans ?_)
  have hp := padded_real hx hpad 0 (by norm_num) (448 * t.val + r.val) (by omega) i l (by omega)
  refine Eq.trans (congrArg (padded (input m c)) ?_) hp
  exact congrArg (fun a => ix3 a i l) (Fin.ext (by dsimp only; omega))

/-- The blocks of the second set of scores, as rows of reals. -/
theorem second_scores (t : Fin cfg2.N) :
    Rows (Loss.iblk (X5 m) c 1 t) fun r k => score (scores (input m c)) pad 1 (448 * t.val + r) k := by
  intro r i l
  have ht : t.val < 14 := lt_of_lt_of_eq t.isLt N_2
  have hr := r.isLt
  have h : 6272 + (448 * t.val + r.val) < 12544 := by omega
  refine (scores_1 m c t r i l h).trans ((congrFun (input_padded m c) _).trans ?_)
  have hp := padded_real hx hpad 1 (by norm_num) (448 * t.val + r.val) (by omega) i l (by omega)
  refine Eq.trans (congrArg (padded (input m c)) ?_) hp
  exact congrArg (fun a => ix3 a i l) (Fin.ext (by dsimp only))

/-- The result, for one number per column that the first kernel takes off the exponents. -/
theorem result_real : ∃ M : ℕ → ℝ, (X7 m c main_v11 : FVec Ideal S_ .f32) ix0
    = ((-(loss 6272 3000 (expo (score (scores (input m c)) pad 0) M) (fun n k => 10 * score (scores (input m c)) pad 1 n k)
        (wt (score (scores (input m c)) pad 0) M 2) / 6272) : ℝ) : EReal) := by
  have ha := Pass1.after_real (X3 m) c (first_scores hx hpad)
  choose! mu hmu using ha
  have hr : Ready m c (score (scores (input m c)) pad 0) mu := fun t => ⟨first_scores hx hpad t, hmu t.val t.isLt⟩
  refine ⟨mu 13, ?_⟩
  rw [result_mean]
  exact mean_real _ _ ((result_total m c).trans (total_real hr (second_scores hx hpad)))

end Cert.KernelIdeal.Whole
-- ==== Proof.Equation.lean ====
/-
  The claims read under the precondition: the two frames, and the value claim. From equal arguments with real scores, the ideal kernel and the ideal reference leave the same loss.
-/
module

public import proofs.«01_k».proof.Defs
public import proofs.«01_k».proof.Proof.Gen.Pre_finite_scores
public import proofs.«01_k».proof.Proof.Gen.ReferenceIdeal.Run
public import proofs.«01_k».proof.Proof.Reference
public import proofs.«01_k».proof.Proof.Ideal.Value
public import proofs.«01_k».proof.Proof.Frames

@[expose] public section

set_option maxRecDepth 16384

noncomputable section

namespace Cert.Proof

open Idealize.ShloMosaic Idealize.SL.Sem
open Idealize.ShloMosaic.TcCoe
open Cert.Reals Cert.Score

attribute [local instance] Cert.KernelIdeal.Gen.facts Cert.ReferenceIdeal.Gen.facts Cert.Pre_finite_scores.Gen.facts

/-- What the precondition says at one score. -/
theorem finite_at (a0 : FVec Ideal Cert.Pre_finite_scores.S2x32x196x128 .f32) (x : FVec Ideal Cert.Pre_finite_scores.S2x32x196x3000 .f32)
    (a2 : IVec Cert.Pre_finite_scores.S2x32x196 32) (j : Cert.Pre_finite_scores.S2x32x196x3000.Idx) :
    Cert.Pre_finite_scores.fn (F := Ideal) a0 x a2 j = Ideal.cmp .olt (max (x j) (-(x j))) (Ideal.ofBits .f32 0x7F800000#32) := by
  rfl

/-- A number whose absolute value is below infinity is a real number. -/
theorem real_of_lt {a : EReal} (h : Ideal.cmp .olt (max a (-a)) (Ideal.ofBits .f32 0x7F800000#32) = 1#1) : ∃ r : ℝ, a = r := by
  have ht : Ideal.ofBits .f32 0x7F800000#32 = (⊤ : EReal) := by simp [Ideal.ofBits, Ideal.ieee]
  rw [ht] at h
  have hlt : max a (-a) < ⊤ := by
    by_contra hn
    simp [Ideal.cmp, hn] at h
  induction a with
  | bot => simp at hlt
  | top => simp at hlt
  | coe r => exact ⟨r, rfl⟩

/-- The scores the precondition admits are real numbers. -/
theorem scores_real {m : (ℓ : Loc Cert.KernelIdeal.nD Cert.KernelIdeal.τ Cert.KernelIdeal.sig) → Buf (Elt Ideal) ℓ}
    (h : Cert.Pre_KernelIdeal_finite_scores m) (c : Dev Cert.KernelIdeal.nD) :
    Real4 (Cert.KernelIdeal.Whole.scores (Cert.KernelIdeal.Whole.input m c)) := by
  intro g b p k
  refine real_of_lt ?_
  have hj := congrFun (h c) (ix4 g b p k)
  rw [finite_at] at hj
  exact hj

/-- The result of the reference on the kernel's scores is the result of the kernel. -/
theorem results_eq (m : (ℓ : Loc Cert.KernelIdeal.nD Cert.KernelIdeal.τ Cert.KernelIdeal.sig) → Buf (Elt Ideal) ℓ)
    (c : Dev Cert.KernelIdeal.nD) (hx : Real4 (Cert.KernelIdeal.Whole.scores (Cert.KernelIdeal.Whole.input m c))) :
    Cert.ReferenceIdeal.Read.val_main_v68 (F := Ideal) (Cert.KernelIdeal.Whole.input m c)
      = (Cert.KernelIdeal.Whole.X7 m c Cert.KernelIdeal.main_v11 : FVec Ideal Cert.KernelIdeal.S_ .f32) := by
  obtain ⟨pad, hpad⟩ := Cert.Reals.f32_pad
  obtain ⟨M, hM⟩ := Cert.KernelIdeal.Whole.result_real hx hpad
  funext j
  rw [show j = ix0 from Subsingleton.elim _ _]
  exact (Cert.ReferenceIdeal.Meaning.result_eq hx pad M).trans hM.symm

/-- The frame of the ideal kernel, under the precondition it does not need. -/
theorem frame_ideal_finite : Cert.quiescent_KernelIdeal_pre_finite_scores := fun m ρ _ => frame_ideal m ρ trivial

/-- The frame of the ideal reference, under the precondition it does not need. -/
theorem frame_reference_finite : Cert.quiescent_ReferenceIdeal_pre_finite_scores := fun m ρ _ => frame_reference m ρ trivial

/-- Kernel and reference agree over the extended reals, from real scores. -/
theorem algebraic : Cert.algebraic_KernelIdeal_ReferenceIdeal_pre_finite_scores := by
  intro m g m' g' hpre hargs
  refine ⟨fun c => Cert.KernelIdeal.Whole.X7 m c Cert.KernelIdeal.main_v11, ?_, ?_⟩
  · exact (θ_run _ _ _).mono (fun _ h => h.1) (Cert.KernelIdeal.Whole.run m g)
  · refine (θ_run _ _ _).mono (fun r h c => ⟨(h c).1.trans ?_, (h c).2⟩) (Cert.ReferenceIdeal.Value.run m' g')
    refine (Cert.ReferenceIdeal.Read.val_main_v68_eq _).trans ?_
    refine Eq.trans (congrArg (Cert.ReferenceIdeal.Read.val_main_v68 (F := Ideal)) (hargs c).2.1) ?_
    exact results_eq m c (scores_real hpre c)

end Cert.Proof

end
-- ==== Proof.lean ====
/-
  The proof of `Cert.Claim`: every conjunct is proved in a module of its own under Proof/, and put together here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_finite_scores.Gen.facts,
    frame_kernel, frame_ideal, frame_ideal_finite, frame_reference, frame_reference_finite, preserves, algebraic⟩

end Cert.Proof

end
